-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v6) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v20) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutRefIdeal (hOutRefIdeal := hOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal (hOutProjIdeal := hOutProjIdeal) (hOutRefIdeal := hOutRefIdeal)
-- ==== Pre_finite.lean ====
abbrev S2x16x8448x128 : Shape := ⟨4, ![2, 16, 8448, 128]⟩
abbrev S2x4x8448x128 : Shape := ⟨4, ![2, 4, 8448, 128]⟩
abbrev S_ : Shape := ⟨0, ![]⟩

class Facts : Prop where
  bitsLt_bf16_f32 : FTy.bits .bf16 < FTy.bits .f32
  bcast_S_S2x16x8448x128 : S_.BroadcastsInDim S2x16x8448x128 (![] : Fin 0 → Fin S2x16x8448x128.rank)
  bcast_S_S2x4x8448x128 : S_.BroadcastsInDim S2x4x8448x128 (![] : Fin 0 → Fin S2x4x8448x128.rank)

variable [Facts]

def fn {F : FTy → Type} [FloatOps F] (main_arg0 : FVec F S2x16x8448x128 .bf16) (main_arg1 : FVec F S2x4x8448x128 .bf16) (main_arg2 : FVec F S2x4x8448x128 .bf16) : IVec S2x16x8448x128 1 × IVec S2x4x8448x128 1 :=
  let main_v0 : FVec F S2x16x8448x128 .f32 := (extf .f32 · bitsLt_bf16_f32) main_arg0
  let main_v1 : FVec F S2x16x8448x128 .f32 := Host.absf main_v0
  let main_cst : FVec F S_ .f32 := constant S_ .f32 0x7F800000#32
  let main_v2 : FVec F S2x16x8448x128 .f32 := broadcastInDim S2x16x8448x128 ![] bcast_S_S2x16x8448x128 main_cst
  let main_v3 : IVec S2x16x8448x128 1 := cmpf .olt main_v1 main_v2
  let main_v4 : FVec F S2x4x8448x128 .f32 := (extf .f32 · bitsLt_bf16_f32) main_arg1
  let main_v5 : FVec F S2x4x8448x128 .f32 := Host.absf main_v4
  let main_cst_0 : FVec F S_ .f32 := constant S_ .f32 0x7F800000#32
  let main_v6 : FVec F S2x4x8448x128 .f32 := broadcastInDim S2x4x8448x128 ![] bcast_S_S2x4x8448x128 main_cst_0
  let main_v7 : IVec S2x4x8448x128 1 := cmpf .olt main_v5 main_v6
  (main_v3, main_v7)
-- ==== Kernel.lean ====
abbrev S2x16x8448x128 : Shape := ⟨4, ![2, 16, 8448, 128]⟩
abbrev S2x4x8448x128 : Shape := ⟨4, ![2, 4, 8448, 128]⟩
abbrev S_ : Shape := ⟨0, ![]⟩
abbrev S2x4x8448x256 : Shape := ⟨4, ![2, 4, 8448, 256]⟩
abbrev S2x8448x2048 : Shape := ⟨3, ![2, 8448, 2048]⟩
abbrev S1x4x256x128 : Shape := ⟨4, ![1, 4, 256, 128]⟩
abbrev S1x1x8448x128 : Shape := ⟨4, ![1, 1, 8448, 128]⟩
abbrev S1x1x8448x256 : Shape := ⟨4, ![1, 1, 8448, 256]⟩
abbrev S1x256x512 : Shape := ⟨3, ![1, 256, 512]⟩
abbrev S2x1024x1408 : Shape := ⟨3, ![2, 1024, 1408]⟩
abbrev S8x128 : Shape := ⟨2, ![8, 128]⟩
abbrev S8448x128 : Shape := ⟨2, ![8448, 128]⟩
abbrev S8448 : Shape := ⟨1, ![8448]⟩
abbrev S8448x1 : Shape := ⟨2, ![8448, 1]⟩
abbrev S1x8448x1 : Shape := ⟨3, ![1, 8448, 1]⟩
abbrev S1 : Shape := ⟨1, ![1]⟩
abbrev S1x1x1 : Shape := ⟨3, ![1, 1, 1]⟩
abbrev S4x256x128 : Shape := ⟨3, ![4, 256, 128]⟩
abbrev S1024x128 : Shape := ⟨2, ![1024, 128]⟩
abbrev S1024x1 : Shape := ⟨2, ![1024, 1]⟩
abbrev S1024x256 : Shape := ⟨2, ![1024, 256]⟩
abbrev S1x1x256x128 : Shape := ⟨4, ![1, 1, 256, 128]⟩
abbrev S256x128 : Shape := ⟨2, ![256, 128]⟩
abbrev S1x1024x256 : Shape := ⟨3, ![1, 1024, 256]⟩
abbrev S64x1 : Shape := ⟨2, ![64, 1]⟩
abbrev S1x64x256 : Shape := ⟨3, ![1, 64, 256]⟩
abbrev S64x256 : Shape := ⟨2, ![64, 256]⟩
abbrev S64 : Shape := ⟨1, ![64]⟩
abbrev S1x1x256x256 : Shape := ⟨4, ![1, 1, 256, 256]⟩
abbrev S256x256 : Shape := ⟨2, ![256, 256]⟩
abbrev S1x256x128 : Shape := ⟨3, ![1, 256, 128]⟩
abbrev S1024 : Shape := ⟨1, ![1024]⟩
abbrev S1x1 : Shape := ⟨2, ![1, 1]⟩
abbrev S1x1024x1 : Shape := ⟨3, ![1, 1024, 1]⟩
abbrev S1x1x1408x128 : Shape := ⟨4, ![1, 1, 1408, 128]⟩
abbrev S1408x128 : Shape := ⟨2, ![1408, 128]⟩
abbrev S1024x1408 : Shape := ⟨2, ![1024, 1408]⟩
abbrev S1x1024x1408 : Shape := ⟨3, ![1, 1024, 1408]⟩
abbrev S1x1x1408x256 : Shape := ⟨4, ![1, 1, 1408, 256]⟩
abbrev S1408x256 : Shape := ⟨2, ![1408, 256]⟩
abbrev S1x64x1408 : Shape := ⟨3, ![1, 64, 1408]⟩
abbrev S64x1408 : Shape := ⟨2, ![64, 1408]⟩

abbrev nBuf : Space → Nat
  | .hbm => 7
  | .vmem => 11
  | .smem => 0
  | _ => 0

abbrev bufTy : (tb : Table) → Fin (tcTables nBuf tb) → BufTy
  | .hbm, ⟨0, _⟩ => ⟨S2x16x8448x128, .bf16⟩
  | .hbm, ⟨1, _⟩ => ⟨S2x4x8448x128, .bf16⟩
  | .hbm, ⟨2, _⟩ => ⟨S2x4x8448x128, .bf16⟩
  | .hbm, ⟨3, _⟩ => ⟨S_, .bf16⟩
  | .hbm, ⟨4, _⟩ => ⟨S2x4x8448x128, .bf16⟩
  | .hbm, ⟨5, _⟩ => ⟨S2x4x8448x256, .bf16⟩
  | .hbm, ⟨6, _⟩ => ⟨S2x8448x2048, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x1x8448x128, .bf16⟩
  | .local _ .vmem, ⟨3, _⟩ => ⟨S1x1x8448x128, .bf16⟩
  | .local _ .vmem, ⟨4, _⟩ => ⟨S1x1x8448x256, .bf16⟩
  | .local _ .vmem, ⟨5, _⟩ => ⟨S1x1x8448x256, .bf16⟩
  | .local _ .vmem, ⟨6, _⟩ => ⟨S1x256x512, .bf16⟩
  | .local _ .vmem, ⟨7, _⟩ => ⟨S1x256x512, .bf16⟩
  | .local _ .vmem, ⟨8, _⟩ => ⟨S2x1024x1408, .f32⟩
  | .local _ .vmem, ⟨9, _⟩ => ⟨S2x1024x1408, .bf16⟩
  | .local _ .vmem, ⟨10, _⟩ => ⟨S8x128, .f32⟩
  | _, _ => ⟨S2x16x8448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 33], ![false, false, false]⟩

def k0_cond2 (i : grid0.Coords) : BitVec 1 :=
  let arg2 : BitVec 32 := BitVec.ofNat 32 (i 2).val
  let c1_i32 : BitVec 32 := 1#32
  let v3 : BitVec 1 := Scalar.cmpi .slt arg2 c1_i32
  let v4 : BitVec 32 := Scalar.extui v3
  let c0_i32_1 : BitVec 32 := 0#32
  let v5 : BitVec 1 := Scalar.cmpi .ne v4 c0_i32_1
  v5

def k0_mult1 : BitVec 32 :=
  let c0_i32_21 : BitVec 32 := 0#32
  let c256_i32 : BitVec 32 := 256#32
  let v40 : BitVec 32 := Scalar.muli c0_i32_21 c256_i32
  v40
def k0_off1 : Fin 4 → Nat :=
  let c0_22 : Index := 0#32
  let c0_23 : Index := 0#32
  let c0_i32_21 : BitVec 32 := 0#32
  let c256_i32 : BitVec 32 := 256#32
  let v40 : BitVec 32 := Scalar.muli c0_i32_21 c256_i32
  let v41 : BitVec 32 := v40
  let v42 : Index := Scalar.indexCast v41
  let c0_24 : Index := 0#32
  ![0, 0, v42.toNat, 0]
def k0_mult2 : BitVec 32 :=
  let c0_i32_21 : BitVec 32 := 0#32
  let c256_i32_174 : BitVec 32 := 256#32
  let v292 : BitVec 32 := Scalar.muli c0_i32_21 c256_i32_174
  v292
def k0_off2 : Fin 4 → Nat :=
  let c0_175 : Index := 0#32
  let c0_176 : Index := 0#32
  let c0_i32_21 : BitVec 32 := 0#32
  let c256_i32_174 : BitVec 32 := 256#32
  let v292 : BitVec 32 := Scalar.muli c0_i32_21 c256_i32_174
  let v293 : BitVec 32 := v292
  let v294 : Index := Scalar.indexCast v293
  let c0_177 : Index := 0#32
  ![0, 0, v294.toNat, 0]
@[reducible] def k0_t1_loop : Scf.Loop 32 :=
  let c0_i32_28 : BitVec 32 := 0#32
  let c2_i32 : BitVec 32 := 2#32
  let v49 : BitVec 32 := Scalar.addi c0_i32_28 c2_i32
  let c1_i32_29 : BitVec 32 := 1#32
  ⟨c0_i32_28, v49, c1_i32_29⟩
def k0_mult3 (k0_t1 : Fin k0_t1_loop.trips) : BitVec 32 :=
  let c2_i32_61 : BitVec 32 := 2#32
  let c0_i32_28 : BitVec 32 := 0#32
  let c1_i32_29 : BitVec 32 := 1#32
  let arg10 : BitVec 32 := Scf.iv c0_i32_28 c1_i32_29 k0_t1
  let v96 : BitVec 32 := Scalar.muli c2_i32_61 arg10
  let c1_i32_62 : BitVec 32 := 1#32
  let v97 : BitVec 32 := Scalar.addi v96 c1_i32_62
  let c1408_i32 : BitVec 32 := 1408#32
  let v98 : BitVec 32 := Scalar.muli v97 c1408_i32
  v98
def k0_off3 (k0_t1 : Fin k0_t1_loop.trips) (c1_i32_62 : BitVec 32) : Fin 4 → Nat :=
  let c0_63 : Index := 0#32
  let c0_64 : Index := 0#32
  let c2_i32_61 : BitVec 32 := 2#32
  let c0_i32_28 : BitVec 32 := 0#32
  let c1_i32_29 : BitVec 32 := 1#32
  let arg10 : BitVec 32 := Scf.iv c0_i32_28 c1_i32_29 k0_t1
  let v96 : BitVec 32 := Scalar.muli c2_i32_61 arg10
  let v97 : BitVec 32 := Scalar.addi v96 c1_i32_62
  let c1408_i32 : BitVec 32 := 1408#32
  let v98 : BitVec 32 := Scalar.muli v97 c1408_i32
  let v99 : BitVec 32 := v98
  let v100 : Index := Scalar.indexCast v99
  let c0_65 : Index := 0#32
  ![0, 0, v100.toNat, 0]
def k0_mult4 (k0_t1 : Fin k0_t1_loop.trips) : BitVec 32 :=
  let c2_i32_70 : BitVec 32 := 2#32
  let c0_i32_28 : BitVec 32 := 0#32
  let c1_i32_29 : BitVec 32 := 1#32
  let arg10 : BitVec 32 := Scf.iv c0_i32_28 c1_i32_29 k0_t1
  let v111 : BitVec 32 := Scalar.muli c2_i32_70 arg10
  let c1408_i32_74 : BitVec 32 := 1408#32
  let v114 : BitVec 32 := Scalar.muli v111 c1408_i32_74
  v114
def k0_off4 (k0_t1 : Fin k0_t1_loop.trips) : Fin 4 → Nat :=
  let c0_75 : Index := 0#32
  let c0_76 : Index := 0#32
  let c2_i32_70 : BitVec 32 := 2#32
  let c0_i32_28 : BitVec 32 := 0#32
  let c1_i32_29 : BitVec 32 := 1#32
  let arg10 : BitVec 32 := Scf.iv c0_i32_28 c1_i32_29 k0_t1
  let v111 : BitVec 32 := Scalar.muli c2_i32_70 arg10
  let c1408_i32_74 : BitVec 32 := 1408#32
  let v114 : BitVec 32 := Scalar.muli v111 c1408_i32_74
  let v115 : BitVec 32 := v114
  let v116 : Index := Scalar.indexCast v115
  let c0_77 : Index := 0#32
  ![0, 0, v116.toNat, 0]
def k0_mult5 (k0_t1 : Fin k0_t1_loop.trips) : BitVec 32 :=
  let c2_i32_79 : BitVec 32 := 2#32
  let c0_i32_28 : BitVec 32 := 0#32
  let c1_i32_29 : BitVec 32 := 1#32
  let arg10 : BitVec 32 := Scf.iv c0_i32_28 c1_i32_29 k0_t1
  let v121 : BitVec 32 := Scalar.muli c2_i32_79 arg10
  let c2_i32_80 : BitVec 32 := 2#32
  let v122 : BitVec 32 := Scalar.addi v121 c2_i32_80
  let c1408_i32_81 : BitVec 32 := 1408#32
  let v123 : BitVec 32 := Scalar.muli v122 c1408_i32_81
  v123
def k0_mult6 (k0_t1 : Fin k0_t1_loop.trips) : BitVec 32 :=
  let c2_i32_89 : BitVec 32 := 2#32
  let c0_i32_28 : BitVec 32 := 0#32
  let c1_i32_29 : BitVec 32 := 1#32
  let arg10 : BitVec 32 := Scf.iv c0_i32_28 c1_i32_29 k0_t1
  let v136 : BitVec 32 := Scalar.muli c2_i32_89 arg10
  let c1_i32_90 : BitVec 32 := 1#32
  let v137 : BitVec 32 := Scalar.addi v136 c1_i32_90
  let c1408_i32_94 : BitVec 32 := 1408#32
  let v140 : BitVec 32 := Scalar.muli v137 c1408_i32_94
  v140
def k0_off5 (k0_t1 : Fin k0_t1_loop.trips) : Fin 4 → Nat :=
  let c0_95 : Index := 0#32
  let c0_96 : Index := 0#32
  let c2_i32_89 : BitVec 32 := 2#32
  let c0_i32_28 : BitVec 32 := 0#32
  let c1_i32_29 : BitVec 32 := 1#32
  let arg10 : BitVec 32 := Scf.iv c0_i32_28 c1_i32_29 k0_t1
  let v136 : BitVec 32 := Scalar.muli c2_i32_89 arg10
  let c1_i32_90 : BitVec 32 := 1#32
  let v137 : BitVec 32 := Scalar.addi v136 c1_i32_90
  let c1408_i32_94 : BitVec 32 := 1408#32
  let v140 : BitVec 32 := Scalar.muli v137 c1408_i32_94
  let v141 : BitVec 32 := v140
  let v142 : Index := Scalar.indexCast v141
  let c0_97 : Index := 0#32
  ![0, 0, v142.toNat, 0]
@[reducible] def k0_t2_loop : Scf.Loop 32 :=
  let c0_i32_180 : BitVec 32 := 0#32
  let c2_i32 : BitVec 32 := 2#32
  let v295 : BitVec 32 := Scalar.addi c0_i32_180 c2_i32
  let c1_i32_181 : BitVec 32 := 1#32
  ⟨c0_i32_180, v295, c1_i32_181⟩
def k0_mult7 (k0_t2 : Fin k0_t2_loop.trips) : BitVec 32 :=
  let c2_i32_369 : BitVec 32 := 2#32
  let c0_i32_180 : BitVec 32 := 0#32
  let c1_i32_181 : BitVec 32 := 1#32
  let arg10 : BitVec 32 := Scf.iv c0_i32_180 c1_i32_181 k0_t2
  let v579 : BitVec 32 := Scalar.muli c2_i32_369 arg10
  let c2_i32_370 : BitVec 32 := 2#32
  let v580 : BitVec 32 := Scalar.addi v579 c2_i32_370
  let c1408_i32 : BitVec 32 := 1408#32
  let v581 : BitVec 32 := Scalar.muli v580 c1408_i32
  v581
def k0_off6 (k0_t2 : Fin k0_t2_loop.trips) (c2_i32_370 : BitVec 32) : Fin 4 → Nat :=
  let c0_371 : Index := 0#32
  let c0_372 : Index := 0#32
  let c2_i32_369 : BitVec 32 := 2#32
  let c0_i32_180 : BitVec 32 := 0#32
  let c1_i32_181 : BitVec 32 := 1#32
  let arg10 : BitVec 32 := Scf.iv c0_i32_180 c1_i32_181 k0_t2
  let v579 : BitVec 32 := Scalar.muli c2_i32_369 arg10
  let v580 : BitVec 32 := Scalar.addi v579 c2_i32_370
  let c1408_i32 : BitVec 32 := 1408#32
  let v581 : BitVec 32 := Scalar.muli v580 c1408_i32
  let v582 : BitVec 32 := v581
  let v583 : Index := Scalar.indexCast v582
  let c0_373 : Index := 0#32
  ![0, 0, v583.toNat, 0]
def k0_mult8 (k0_t2 : Fin k0_t2_loop.trips) : BitVec 32 :=
  let c2_i32_538 : BitVec 32 := 2#32
  let c0_i32_180 : BitVec 32 := 0#32
  let c1_i32_181 : BitVec 32 := 1#32
  let arg10 : BitVec 32 := Scf.iv c0_i32_180 c1_i32_181 k0_t2
  let v833 : BitVec 32 := Scalar.muli c2_i32_538 arg10
  let c1408_i32_539 : BitVec 32 := 1408#32
  let v834 : BitVec 32 := Scalar.muli v833 c1408_i32_539
  v834
def k0_off7 (k0_t2 : Fin k0_t2_loop.trips) : Fin 4 → Nat :=
  let c0_540 : Index := 0#32
  let c0_541 : Index := 0#32
  let c2_i32_538 : BitVec 32 := 2#32
  let c0_i32_180 : BitVec 32 := 0#32
  let c1_i32_181 : BitVec 32 := 1#32
  let arg10 : BitVec 32 := Scf.iv c0_i32_180 c1_i32_181 k0_t2
  let v833 : BitVec 32 := Scalar.muli c2_i32_538 arg10
  let c1408_i32_539 : BitVec 32 := 1408#32
  let v834 : BitVec 32 := Scalar.muli v833 c1408_i32_539
  let v835 : BitVec 32 := v834
  let v836 : Index := Scalar.indexCast v835
  let c0_542 : Index := 0#32
  ![0, 0, v836.toNat, 0]
def k0_mult9 (k0_t2 : Fin k0_t2_loop.trips) : BitVec 32 :=
  let c2_i32_547 : BitVec 32 := 2#32
  let c0_i32_180 : BitVec 32 := 0#32
  let c1_i32_181 : BitVec 32 := 1#32
  let arg10 : BitVec 32 := Scf.iv c0_i32_180 c1_i32_181 k0_t2
  let v845 : BitVec 32 := Scalar.muli c2_i32_547 arg10
  let c3_i32 : BitVec 32 := 3#32
  let v846 : BitVec 32 := Scalar.addi v845 c3_i32
  let c1408_i32_548 : BitVec 32 := 1408#32
  let v847 : BitVec 32 := Scalar.muli v846 c1408_i32_548
  v847
def k0_mult10 (k0_t2 : Fin k0_t2_loop.trips) : BitVec 32 :=
  let c2_i32_716 : BitVec 32 := 2#32
  let c0_i32_180 : BitVec 32 := 0#32
  let c1_i32_181 : BitVec 32 := 1#32
  let arg10 : BitVec 32 := Scf.iv c0_i32_180 c1_i32_181 k0_t2
  let v1099 : BitVec 32 := Scalar.muli c2_i32_716 arg10
  let c1_i32_717 : BitVec 32 := 1#32
  let v1100 : BitVec 32 := Scalar.addi v1099 c1_i32_717
  let c1408_i32_718 : BitVec 32 := 1408#32
  let v1101 : BitVec 32 := Scalar.muli v1100 c1408_i32_718
  v1101
def k0_off8 (k0_t2 : Fin k0_t2_loop.trips) : Fin 4 → Nat :=
  let c0_719 : Index := 0#32
  let c0_720 : Index := 0#32
  let c2_i32_716 : BitVec 32 := 2#32
  let c0_i32_180 : BitVec 32 := 0#32
  let c1_i32_181 : BitVec 32 := 1#32
  let arg10 : BitVec 32 := Scf.iv c0_i32_180 c1_i32_181 k0_t2
  let v1099 : BitVec 32 := Scalar.muli c2_i32_716 arg10
  let c1_i32_717 : BitVec 32 := 1#32
  let v1100 : BitVec 32 := Scalar.addi v1099 c1_i32_717
  let c1408_i32_718 : BitVec 32 := 1408#32
  let v1101 : BitVec 32 := Scalar.muli v1100 c1408_i32_718
  let v1102 : BitVec 32 := v1101
  let v1103 : Index := Scalar.indexCast v1102
  let c0_721 : Index := 0#32
  ![0, 0, v1103.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16x8448x128 : Shape := ⟨4, ![2, 16, 8448, 128]⟩
abbrev S2x4x8448x128 : Shape := ⟨4, ![2, 4, 8448, 128]⟩
abbrev S2x16x256x128 : Shape := ⟨4, ![2, 16, 256, 128]⟩
abbrev S2x4x256x128 : Shape := ⟨4, ![2, 4, 256, 128]⟩
abbrev S2x4x4x256x128 : Shape := ⟨5, ![2, 4, 4, 256, 128]⟩
abbrev S2x4x4x256x256 : Shape := ⟨5, ![2, 4, 4, 256, 256]⟩
abbrev S_ : Shape := ⟨0, ![]⟩
abbrev S2x4x4x256 : Shape := ⟨4, ![2, 4, 4, 256]⟩
abbrev S2x4x4x256x1 : Shape := ⟨5, ![2, 4, 4, 256, 1]⟩
abbrev S2x4x128x4x256 : Shape := ⟨5, ![2, 4, 128, 4, 256]⟩
abbrev S2x256x4x4x128 : Shape := ⟨5, ![2, 256, 4, 4, 128]⟩
abbrev S2x256x2048 : Shape := ⟨3, ![2, 256, 2048]⟩
abbrev S2x16x8192x128 : Shape := ⟨4, ![2, 16, 8192, 128]⟩
abbrev S2x4x4x8192x128 : Shape := ⟨5, ![2, 4, 4, 8192, 128]⟩
abbrev S2x4x4x8192x8448 : Shape := ⟨5, ![2, 4, 4, 8192, 8448]⟩
abbrev S2x4x4x8192 : Shape := ⟨4, ![2, 4, 4, 8192]⟩
abbrev S2x4x4x8192x1 : Shape := ⟨5, ![2, 4, 4, 8192, 1]⟩
abbrev S2x4x128x4x8192 : Shape := ⟨5, ![2, 4, 128, 4, 8192]⟩
abbrev S2x8192x4x4x128 : Shape := ⟨5, ![2, 8192, 4, 4, 128]⟩
abbrev S2x8192x2048 : Shape := ⟨3, ![2, 8192, 2048]⟩
abbrev S2x8448x2048 : Shape := ⟨3, ![2, 8448, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x16x8448x128, .bf16⟩
  | .hbm, ⟨1, _⟩ => ⟨S2x4x8448x128, .bf16⟩
  | .hbm, ⟨2, _⟩ => ⟨S2x4x8448x128, .bf16⟩
  | .hbm, ⟨3, _⟩ => ⟨S2x16x8448x128, .f32⟩
  | .hbm, ⟨4, _⟩ => ⟨S2x4x8448x128, .f32⟩
  | .hbm, ⟨5, _⟩ => ⟨S2x4x8448x128, .f32⟩
  | .hbm, ⟨6, _⟩ => ⟨S2x16x256x128, .f32⟩
  | .hbm, ⟨7, _⟩ => ⟨S2x4x256x128, .f32⟩
  | .hbm, ⟨8, _⟩ => ⟨S2x4x256x128, .f32⟩
  | .hbm, ⟨9, _⟩ => ⟨S2x4x4x256x128, .f32⟩
  | .hbm, ⟨10, _⟩ => ⟨S2x4x4x256x256, .f32⟩
  | .hbm, ⟨11, _⟩ => ⟨S_, .f32⟩
  | .hbm, ⟨12, _⟩ => ⟨S_, .f32⟩
  | .hbm, ⟨13, _⟩ => ⟨S2x4x4x256x256, .f32⟩
  | .hbm, ⟨14, _⟩ => ⟨S2x4x4x256x256, .f32⟩
  | .hbm, ⟨15, _⟩ => ⟨S_, .f32⟩
  | .hbm, ⟨16, _⟩ => ⟨S2x4x4x256, .f32⟩
  | .hbm, ⟨17, _⟩ => ⟨S_, .f32⟩
  | .hbm, ⟨18, _⟩ => ⟨S2x4x4x256, .f32⟩
  | .hbm, ⟨19, _⟩ => ⟨S2x4x4x256, .f32⟩
  | .hbm, ⟨20, _⟩ => ⟨S2x4x4x256x1, .f32⟩
  | .hbm, ⟨21, _⟩ => ⟨S2x4x4x256x256, .f32⟩
  | .hbm, ⟨22, _⟩ => ⟨S2x4x4x256x256, .f32⟩
  | .hbm, ⟨23, _⟩ => ⟨S2x4x4x256x256, .f32⟩
  | .hbm, ⟨24, _⟩ => ⟨S_, .f32⟩
  | .hbm, ⟨25, _⟩ => ⟨S2x4x4x256, .f32⟩
  | .hbm, ⟨26, _⟩ => ⟨S2x4x4x256x1, .f32⟩
  | .hbm, ⟨27, _⟩ => ⟨S2x4x4x256x256, .f32⟩
  | .hbm, ⟨28, _⟩ => ⟨S2x4x4x256x256, .f32⟩
  | .hbm, ⟨29, _⟩ => ⟨S2x4x128x4x256, .f32⟩
  | .hbm, ⟨30, _⟩ => ⟨S2x256x4x4x128, .f32⟩
  | .hbm, ⟨31, _⟩ => ⟨S2x256x2048, .f32⟩
  | .hbm, ⟨32, _⟩ => ⟨S2x16x8192x128, .f32⟩
  | .hbm, ⟨33, _⟩ => ⟨S2x4x4x8192x128, .f32⟩
  | .hbm, ⟨34, _⟩ => ⟨S2x4x4x8192x8448, .f32⟩
  | .hbm, ⟨35, _⟩ => ⟨S_, .f32⟩
  | .hbm, ⟨36, _⟩ => ⟨S_, .f32⟩
  | .hbm, ⟨37, _⟩ => ⟨S2x4x4x8192x8448, .f32⟩
  | .hbm, ⟨38, _⟩ => ⟨S2x4x4x8192x8448, .f32⟩
  | .hbm, ⟨39, _⟩ => ⟨S_, .f32⟩
  | .hbm, ⟨40, _⟩ => ⟨S2x4x4x8192, .f32⟩
  | .hbm, ⟨41, _⟩ => ⟨S_, .f32⟩
  | .hbm, ⟨42, _⟩ => ⟨S2x4x4x8192, .f32⟩
  | .hbm, ⟨43, _⟩ => ⟨S2x4x4x8192, .f32⟩
  | .hbm, ⟨44, _⟩ => ⟨S2x4x4x8192x1, .f32⟩
  | .hbm, ⟨45, _⟩ => ⟨S2x4x4x8192x8448, .f32⟩
  | .hbm, ⟨46, _⟩ => ⟨S2x4x4x8192x8448, .f32⟩
  | .hbm, ⟨47, _⟩ => ⟨S2x4x4x8192x8448, .f32⟩
  | .hbm, ⟨48, _⟩ => ⟨S_, .f32⟩
  | .hbm, ⟨49, _⟩ => ⟨S2x4x4x8192, .f32⟩
  | .hbm, ⟨50, _⟩ => ⟨S2x4x4x8192x1, .f32⟩
  | .hbm, ⟨51, _⟩ => ⟨S2x4x4x8192x8448, .f32⟩
  | .hbm, ⟨52, _⟩ => ⟨S2x4x4x8192x8448, .f32⟩
  | .hbm, ⟨53, _⟩ => ⟨S2x4x128x4x8192, .f32⟩
  | .hbm, ⟨54, _⟩ => ⟨S2x8192x4x4x128, .f32⟩
  | .hbm, ⟨55, _⟩ => ⟨S2x8192x2048, .f32⟩
  | .hbm, ⟨56, _⟩ => ⟨S2x8448x2048, .f32⟩
  | .hbm, ⟨57, _⟩ => ⟨S2x8448x2048, .bf16⟩
  | _, _ => ⟨S2x16x8448x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== InProj.lean ====
abbrev S16896x4096 : Shape := ⟨2, ![16896, 4096]⟩
abbrev S2x4096x12320 : Shape := ⟨3, ![2, 4096, 12320]⟩
abbrev S2x12320x4096 : Shape := ⟨3, ![2, 12320, 4096]⟩
abbrev S16896x12288 : Shape := ⟨2, ![16896, 12288]⟩
abbrev S528x4096 : Shape := ⟨2, ![528, 4096]⟩
abbrev S1x1024x4096 : Shape := ⟨3, ![1, 1024, 4096]⟩
abbrev S1x128x4096 : Shape := ⟨3, ![1, 128, 4096]⟩
abbrev S528x1024 : Shape := ⟨2, ![528, 1024]⟩
abbrev S1024x4096 : Shape := ⟨2, ![1024, 4096]⟩
abbrev S128x4096 : Shape := ⟨2, ![128, 4096]⟩
abbrev S1152x4096 : Shape := ⟨2, ![1152, 4096]⟩

abbrev nBuf : Space → Nat
  | .hbm => 4
  | .vmem => 7
  | .smem => 0
  | _ => 0

abbrev bufTy : (tb : Table) → Fin (tcTables nBuf tb) → BufTy
  | .hbm, ⟨0, _⟩ => ⟨S16896x4096, .bf16⟩
  | .hbm, ⟨1, _⟩ => ⟨S2x4096x12320, .f32⟩
  | .hbm, ⟨2, _⟩ => ⟨S2x12320x4096, .f32⟩
  | .hbm, ⟨3, _⟩ => ⟨S16896x12288, .f32⟩
  | .local _ .vmem, ⟨0, _⟩ => ⟨S528x4096, .bf16⟩
  | .local _ .vmem, ⟨1, _⟩ => ⟨S528x4096, .bf16⟩
  | .local _ .vmem, ⟨2, _⟩ => ⟨S1x1024x4096, .f32⟩
  | .local _ .vmem, ⟨3, _⟩ => ⟨S1x128x4096, .f32⟩
  | .local _ .vmem, ⟨4, _⟩ => ⟨S528x1024, .f32⟩
  | .local _ .vmem, ⟨5, _⟩ => ⟨S528x1024, .f32⟩
  | .local _ .vmem, ⟨6, _⟩ => ⟨S1024x4096, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![12, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S16896x4096 : Shape := ⟨2, ![16896, 4096]⟩
abbrev S2x4096x12320 : Shape := ⟨3, ![2, 4096, 12320]⟩
abbrev S1x4096x12320 : Shape := ⟨3, ![1, 4096, 12320]⟩
abbrev S4096x12320 : Shape := ⟨2, ![4096, 12320]⟩
abbrev S16896x12320 : Shape := ⟨2, ![16896, 12320]⟩
abbrev S16896x8192 : Shape := ⟨2, ![16896, 8192]⟩
abbrev S16896x12288 : Shape := ⟨2, ![16896, 12288]⟩

abbrev nBuf : Space → Nat
  | .hbm => 9
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x12320, .f32⟩
  | .hbm, ⟨2, _⟩ => ⟨S16896x4096, .f32⟩
  | .hbm, ⟨3, _⟩ => ⟨S1x4096x12320, .f32⟩
  | .hbm, ⟨4, _⟩ => ⟨S4096x12320, .f32⟩
  | .hbm, ⟨5, _⟩ => ⟨S16896x12320, .f32⟩
  | .hbm, ⟨6, _⟩ => ⟨S16896x4096, .f32⟩
  | .hbm, ⟨7, _⟩ => ⟨S16896x8192, .f32⟩
  | .hbm, ⟨8, _⟩ => ⟨S16896x12288, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutProj.lean ====
abbrev S16896x1024 : Shape := ⟨2, ![16896, 1024]⟩
abbrev S16896x2048 : Shape := ⟨2, ![16896, 2048]⟩
abbrev S2x4096x4096 : Shape := ⟨3, ![2, 4096, 4096]⟩
abbrev S16896x4096 : Shape := ⟨2, ![16896, 4096]⟩
abbrev S4096 : Shape := ⟨1, ![4096]⟩
abbrev S2x4096 : Shape := ⟨2, ![2, 4096]⟩
abbrev S1x4096 : Shape := ⟨2, ![1, 4096]⟩
abbrev S2x1x4096 : Shape := ⟨3, ![2, 1, 4096]⟩
abbrev S528x1024 : Shape := ⟨2, ![528, 1024]⟩
abbrev S528x2048 : Shape := ⟨2, ![528, 2048]⟩
abbrev S1x1024x1024 : Shape := ⟨3, ![1, 1024, 1024]⟩
abbrev S1x2048x1024 : Shape := ⟨3, ![1, 2048, 1024]⟩
abbrev S1x1024 : Shape := ⟨2, ![1, 1024]⟩
abbrev S1x1x1024 : Shape := ⟨3, ![1, 1, 1024]⟩
abbrev S1024x1024 : Shape := ⟨2, ![1024, 1024]⟩
abbrev S2048x1024 : Shape := ⟨2, ![2048, 1024]⟩
abbrev S528x1 : Shape := ⟨2, ![528, 1]⟩

abbrev nBuf : Space → Nat
  | .hbm => 10
  | .vmem => 20
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x2048, .bf16⟩
  | .hbm, ⟨3, _⟩ => ⟨S2x4096x4096, .f32⟩
  | .hbm, ⟨4, _⟩ => ⟨S16896x4096, .f32⟩
  | .hbm, ⟨5, _⟩ => ⟨S4096, .f32⟩
  | .hbm, ⟨6, _⟩ => ⟨S2x4096, .f32⟩
  | .hbm, ⟨7, _⟩ => ⟨S1x4096, .f32⟩
  | .hbm, ⟨8, _⟩ => ⟨S2x1x4096, .f32⟩
  | .hbm, ⟨9, _⟩ => ⟨S16896x4096, .f32⟩
  | .local _ .vmem, ⟨0, _⟩ => ⟨S528x1024, .bf16⟩
  | .local _ .vmem, ⟨1, _⟩ => ⟨S528x1024, .bf16⟩
  | .local _ .vmem, ⟨2, _⟩ => ⟨S528x1024, .bf16⟩
  | .local _ .vmem, ⟨3, _⟩ => ⟨S528x1024, .bf16⟩
  | .local _ .vmem, ⟨4, _⟩ => ⟨S528x2048, .bf16⟩
  | .local _ .vmem, ⟨5, _⟩ => ⟨S528x2048, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x2048x1024, .f32⟩
  | .local _ .vmem, ⟨9, _⟩ => ⟨S528x1024, .f32⟩
  | .local _ .vmem, ⟨10, _⟩ => ⟨S528x1024, .f32⟩
  | .local _ .vmem, ⟨11, _⟩ => ⟨S1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S528x1024, .f32⟩
  | .local _ .vmem, ⟨16, _⟩ => ⟨S528x1024, .f32⟩
  | .local _ .vmem, ⟨17, _⟩ => ⟨S1024x1024, .bf16⟩
  | .local _ .vmem, ⟨18, _⟩ => ⟨S1024x1024, .bf16⟩
  | .local _ .vmem, ⟨19, _⟩ => ⟨S2048x1024, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S528x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S528x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S528x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutRefIdeal.lean ====
abbrev S16896x1024 : Shape := ⟨2, ![16896, 1024]⟩
abbrev S16896x2048 : Shape := ⟨2, ![16896, 2048]⟩
abbrev S2x4096x4096 : Shape := ⟨3, ![2, 4096, 4096]⟩
abbrev S16896x4096 : Shape := ⟨2, ![16896, 4096]⟩
abbrev S4096 : Shape := ⟨1, ![4096]⟩
abbrev S2x4096 : Shape := ⟨2, ![2, 4096]⟩
abbrev S1x4096x4096 : Shape := ⟨3, ![1, 4096, 4096]⟩
abbrev S4096x4096 : Shape := ⟨2, ![4096, 4096]⟩
abbrev S2x8448x4096 : Shape := ⟨3, ![2, 8448, 4096]⟩
abbrev S2x256x4096 : Shape := ⟨3, ![2, 256, 4096]⟩
abbrev S1x1x4096 : Shape := ⟨3, ![1, 1, 4096]⟩
abbrev S2x8192x4096 : Shape := ⟨3, ![2, 8192, 4096]⟩
abbrev S2x1x4096 : Shape := ⟨3, ![2, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x2048, .bf16⟩
  | .hbm, ⟨3, _⟩ => ⟨S2x4096x4096, .f32⟩
  | .hbm, ⟨4, _⟩ => ⟨S16896x4096, .f32⟩
  | .hbm, ⟨5, _⟩ => ⟨S4096, .f32⟩
  | .hbm, ⟨6, _⟩ => ⟨S2x4096, .f32⟩
  | .hbm, ⟨7, _⟩ => ⟨S16896x4096, .bf16⟩
  | .hbm, ⟨8, _⟩ => ⟨S16896x4096, .f32⟩
  | .hbm, ⟨9, _⟩ => ⟨S1x4096x4096, .f32⟩
  | .hbm, ⟨10, _⟩ => ⟨S4096x4096, .f32⟩
  | .hbm, ⟨11, _⟩ => ⟨S16896x4096, .f32⟩
  | .hbm, ⟨12, _⟩ => ⟨S2x8448x4096, .f32⟩
  | .hbm, ⟨13, _⟩ => ⟨S2x8448x4096, .f32⟩
  | .hbm, ⟨14, _⟩ => ⟨S2x256x4096, .f32⟩
  | .hbm, ⟨15, _⟩ => ⟨S2x256x4096, .f32⟩
  | .hbm, ⟨16, _⟩ => ⟨S1x1x4096, .f32⟩
  | .hbm, ⟨17, _⟩ => ⟨S2x256x4096, .f32⟩
  | .hbm, ⟨18, _⟩ => ⟨S2x256x4096, .f32⟩
  | .hbm, ⟨19, _⟩ => ⟨S2x256x4096, .f32⟩
  | .hbm, ⟨20, _⟩ => ⟨S2x8192x4096, .f32⟩
  | .hbm, ⟨21, _⟩ => ⟨S2x1x4096, .f32⟩
  | .hbm, ⟨22, _⟩ => ⟨S2x8192x4096, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8448x4096, .f32⟩
  | .hbm, ⟨27, _⟩ => ⟨S16896x4096, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.RunBase.lean ====
module

public import proofs.«01_k».proof.Proof.Gen.KernelIdeal
public import proofs.«01_k».proof.Proof.Gen.KernelIdeal.Loops
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A staging or scratch buffer held whole at the contents `f`. -/
abbrev pt (c : Dev nD) {s : Shape} {e : EltTy} (M : Memref sig .tc .vmem s e) (f : BufTy.Contents (Elt F) M.view.ty) : sProp 𝕄 :=
  iprop(M.view.loc (c : Thread nD τ) ↦[M.view.set]{fullShare} f)

/-- The bit by which a step takes the tile whose exponents are bounded by the norms. -/
abbrev okBit (a3 : Memref sig .tc .vmem S1x4x256x128 .bf16) (a9 : Memref sig .tc .vmem S8x128 .f32)
    (X3 : BufTy.Contents (Elt F) a3.view.ty) (f9 : BufTy.Contents (Elt F) a9.view.ty) : BitVec 1 :=
  Scalar.cmpf .ole
    (k0_pay242 (View.readAt (Elt F) a3.view (Rect.unit (s := S1x4x256x128) ![0, 0, 0, 0] S1x4x256x128.size inb_S1x4x256x128_S1x4x256x128_0_0_0_0).toLoadRect X3)
      (View.readAt (Elt F) a9.view (Rect.unit (s := S8x128) ![0, 0] S1x1.size inb_S8x128_S1x1_0_0).toLoadRect f9))
    (Scalar.ofBits .f32 0x42480000#32)

/-- The condition of the bounded tile, from its two bits. -/
abbrev bndCond (v b : BitVec 1) : BitVec 1 := Scalar.cmpi .ne (Scalar.extui (Scalar.andi (Scalar.xori v 1#1) b)) 0#32

theorem bndCond_ctx : ∀ v b : BitVec 1, Scalar.cmpi .ne (Scalar.extui v) 0#32 = 1#1 → ¬ bndCond v b = 1#1 := by decide
theorem bndCond_one : ∀ v b : BitVec 1, ¬ Scalar.cmpi .ne (Scalar.extui v) 0#32 = 1#1 → b = 1#1 → bndCond v b = 1#1 := by decide
theorem bndCond_not : ∀ v b : BitVec 1, ¬ Scalar.cmpi .ne (Scalar.extui v) 0#32 = 1#1 → ¬ b = 1#1 → ¬ bndCond v b = 1#1 := by decide
theorem bndCond_xone : ∀ v b : BitVec 1, ¬ Scalar.cmpi .ne (Scalar.extui v) 0#32 = 1#1 → b = 1#1 → ¬ bndCond v (Scalar.xori b 1#1) = 1#1 := by decide
theorem bndCond_xnot : ∀ v b : BitVec 1, ¬ Scalar.cmpi .ne (Scalar.extui v) 0#32 = 1#1 → ¬ b = 1#1 → bndCond v (Scalar.xori b 1#1) = 1#1 := by decide

/-- The bit that says the step is the context tile. -/
abbrev ctxBit (i : grid0.Coords) : BitVec 1 := Scalar.cmpi .slt (BitVec.ofNat 32 (i 2).val) 1#32

end Cert.Proof

end
-- ==== Proof.RunCtx.lean ====
module

public import proofs.«01_k».proof.Proof.RunBase

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The context step: the norms of the keys, then the context tile. -/
def runCtx (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (X3 : BufTy.Contents (Elt F) a3.view.ty) (X4 : BufTy.Contents (Elt F) a4.view.ty) (X5 : BufTy.Contents (Elt F) a5.view.ty) (f9 : BufTy.Contents (Elt F) a9.view.ty)
    (hc1 : Scalar.cmpi .ne (Scalar.extui (Scalar.cmpi .eq (BitVec.ofNat 32 (i 2).val) 0#32)) 0#32 = 1#1)
    (hc2 : k0_cond2 i = 1#1) :
    Σ' (G6 : (BufTy.Contents (Elt F) a6.view.ty) → (BufTy.Contents (Elt F) a7.view.ty) → (BufTy.Contents (Elt F) a8.view.ty) → BufTy.Contents (Elt F) a6.view.ty) (G7 : (BufTy.Contents (Elt F) a6.view.ty) → (BufTy.Contents (Elt F) a7.view.ty) → (BufTy.Contents (Elt F) a8.view.ty) → BufTy.Contents (Elt F) a7.view.ty) (G8 : (BufTy.Contents (Elt F) a6.view.ty) → (BufTy.Contents (Elt F) a7.view.ty) → (BufTy.Contents (Elt F) a8.view.ty) → BufTy.Contents (Elt F) a8.view.ty), { G9 : (BufTy.Contents (Elt F) a6.view.ty) → (BufTy.Contents (Elt F) a7.view.ty) → (BufTy.Contents (Elt F) a8.view.ty) → BufTy.Contents (Elt F) a9.view.ty // ∀ (E : Set ℕ) f6 f7 f8,
      iprop(pt c a3 X3 ∗ pt c a4 X4 ∗ pt c a5 X5 ∗ pt c a6 f6 ∗ pt c a7 f7 ∗ pt c a8 f8 ∗ pt c a9 f9)
      ⊢ wp frame (wpE (defs₀ (F := F)) Variants.none (c : Thread nD τ) none) E (cc0_flash_attention (F := F) i a3 h3 a4 h4 a5 h5 a6 h6 a7 h7 a8 h8 a9 h9)
          (fun _ => iprop(pt c a3 X3 ∗ pt c a4 X4 ∗ pt c a5 X5 ∗ pt c a6 (G6 f6 f7 f8) ∗ pt c a7 (G7 f6 f7 f8) ∗ pt c a8 (G8 f6 f7 f8) ∗ pt c a9 (G9 f6 f7 f8))) } := by
  refine ⟨?_, ?_, ?_, ?_, fun E f6 f7 f8 => ?run⟩
  case run =>
    have h29 : ∀ b, ¬ bndCond (ctxBit i) b = 1#1 := fun b => bndCond_ctx _ b hc2
    iintro ⟨H3, H4, H5, H6, H7, H8, H9⟩
    sl_unfold [Cert.KernelIdeal.cc0_flash_attention]
    sl_exec (disch := first | sl_exact hc1 | sl_exact hc2 | sl_exact (h29 _))
    sl_step
    sl_close

end Cert.Proof

end
-- ==== Proof.RunBnd.lean ====
module

public import proofs.«01_k».proof.Proof.RunBase

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A step whose exponents are bounded by the norms. -/
def runBnd (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (X3 : BufTy.Contents (Elt F) a3.view.ty) (X4 : BufTy.Contents (Elt F) a4.view.ty) (X5 : BufTy.Contents (Elt F) a5.view.ty) (f9 : BufTy.Contents (Elt F) a9.view.ty)
    (hc1 : ¬ Scalar.cmpi .ne (Scalar.extui (Scalar.cmpi .eq (BitVec.ofNat 32 (i 2).val) 0#32)) 0#32 = 1#1)
    (hc2 : ¬ k0_cond2 i = 1#1) (hb : okBit a3 a9 X3 f9 = 1#1) :
    Σ' (G6 : (BufTy.Contents (Elt F) a6.view.ty) → (BufTy.Contents (Elt F) a7.view.ty) → (BufTy.Contents (Elt F) a8.view.ty) → BufTy.Contents (Elt F) a6.view.ty) (G7 : (BufTy.Contents (Elt F) a6.view.ty) → (BufTy.Contents (Elt F) a7.view.ty) → (BufTy.Contents (Elt F) a8.view.ty) → BufTy.Contents (Elt F) a7.view.ty) (G8 : (BufTy.Contents (Elt F) a6.view.ty) → (BufTy.Contents (Elt F) a7.view.ty) → (BufTy.Contents (Elt F) a8.view.ty) → BufTy.Contents (Elt F) a8.view.ty), { G9 : (BufTy.Contents (Elt F) a6.view.ty) → (BufTy.Contents (Elt F) a7.view.ty) → (BufTy.Contents (Elt F) a8.view.ty) → BufTy.Contents (Elt F) a9.view.ty // ∀ (E : Set ℕ) f6 f7 f8,
      iprop(pt c a3 X3 ∗ pt c a4 X4 ∗ pt c a5 X5 ∗ pt c a6 f6 ∗ pt c a7 f7 ∗ pt c a8 f8 ∗ pt c a9 f9)
      ⊢ wp frame (wpE (defs₀ (F := F)) Variants.none (c : Thread nD τ) none) E (cc0_flash_attention (F := F) i a3 h3 a4 h4 a5 h5 a6 h6 a7 h7 a8 h8 a9 h9)
          (fun _ => iprop(pt c a3 X3 ∗ pt c a4 X4 ∗ pt c a5 X5 ∗ pt c a6 (G6 f6 f7 f8) ∗ pt c a7 (G7 f6 f7 f8) ∗ pt c a8 (G8 f6 f7 f8) ∗ pt c a9 (G9 f6 f7 f8))) } := by
  refine ⟨?_, ?_, ?_, ?_, fun E f6 f7 f8 => ?run⟩
  case run =>
    have h29 : bndCond (ctxBit i) (okBit a3 a9 X3 f9) = 1#1 := bndCond_one _ _ hc2 hb
    have h34 : ¬ bndCond (ctxBit i) (Scalar.xori (okBit a3 a9 X3 f9) 1#1) = 1#1 := bndCond_xone _ _ hc2 hb
    iintro ⟨H3, H4, H5, H6, H7, H8, H9⟩
    sl_unfold [Cert.KernelIdeal.cc0_flash_attention]
    sl_exec (disch := first | sl_exact hc1 | sl_exact hc2 | sl_exact h29 | sl_exact h34)
    sl_step
    sl_close

end Cert.Proof

end
-- ==== Proof.RunOnl.lean ====
module

public import proofs.«01_k».proof.Proof.RunBase

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A step with the running maximum. -/
def runOnl (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (X3 : BufTy.Contents (Elt F) a3.view.ty) (X4 : BufTy.Contents (Elt F) a4.view.ty) (X5 : BufTy.Contents (Elt F) a5.view.ty) (f9 : BufTy.Contents (Elt F) a9.view.ty)
    (hc1 : ¬ Scalar.cmpi .ne (Scalar.extui (Scalar.cmpi .eq (BitVec.ofNat 32 (i 2).val) 0#32)) 0#32 = 1#1)
    (hc2 : ¬ k0_cond2 i = 1#1) (hb : ¬ okBit a3 a9 X3 f9 = 1#1) :
    Σ' (G6 : (BufTy.Contents (Elt F) a6.view.ty) → (BufTy.Contents (Elt F) a7.view.ty) → (BufTy.Contents (Elt F) a8.view.ty) → BufTy.Contents (Elt F) a6.view.ty) (G7 : (BufTy.Contents (Elt F) a6.view.ty) → (BufTy.Contents (Elt F) a7.view.ty) → (BufTy.Contents (Elt F) a8.view.ty) → BufTy.Contents (Elt F) a7.view.ty) (G8 : (BufTy.Contents (Elt F) a6.view.ty) → (BufTy.Contents (Elt F) a7.view.ty) → (BufTy.Contents (Elt F) a8.view.ty) → BufTy.Contents (Elt F) a8.view.ty), { G9 : (BufTy.Contents (Elt F) a6.view.ty) → (BufTy.Contents (Elt F) a7.view.ty) → (BufTy.Contents (Elt F) a8.view.ty) → BufTy.Contents (Elt F) a9.view.ty // ∀ (E : Set ℕ) f6 f7 f8,
      iprop(pt c a3 X3 ∗ pt c a4 X4 ∗ pt c a5 X5 ∗ pt c a6 f6 ∗ pt c a7 f7 ∗ pt c a8 f8 ∗ pt c a9 f9)
      ⊢ wp frame (wpE (defs₀ (F := F)) Variants.none (c : Thread nD τ) none) E (cc0_flash_attention (F := F) i a3 h3 a4 h4 a5 h5 a6 h6 a7 h7 a8 h8 a9 h9)
          (fun _ => iprop(pt c a3 X3 ∗ pt c a4 X4 ∗ pt c a5 X5 ∗ pt c a6 (G6 f6 f7 f8) ∗ pt c a7 (G7 f6 f7 f8) ∗ pt c a8 (G8 f6 f7 f8) ∗ pt c a9 (G9 f6 f7 f8))) } := by
  refine ⟨?_, ?_, ?_, ?_, fun E f6 f7 f8 => ?run⟩
  case run =>
    have h29 : ¬ bndCond (ctxBit i) (okBit a3 a9 X3 f9) = 1#1 := bndCond_not _ _ hc2 hb
    have h34 : bndCond (ctxBit i) (Scalar.xori (okBit a3 a9 X3 f9) 1#1) = 1#1 := bndCond_xnot _ _ hc2 hb
    iintro ⟨H3, H4, H5, H6, H7, H8, H9⟩
    sl_unfold [Cert.KernelIdeal.cc0_flash_attention]
    sl_exec (disch := first | sl_exact hc1 | sl_exact hc2 | sl_exact h29 | sl_exact h34)
    sl_step
    sl_close

end Cert.Proof

end
-- ==== Proof.Body.lean ====
module

public import proofs.«01_k».proof.Proof.RunCtx
public import proofs.«01_k».proof.Proof.RunBnd
public import proofs.«01_k».proof.Proof.RunOnl

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two printed conditions on the third coordinate say the same: it is zero. -/
theorem ctx_conds : ∀ x : Fin 33,
    (Scalar.cmpi .ne (Scalar.extui (Scalar.cmpi .eq (BitVec.ofNat 32 x.val) 0#32)) 0#32 = 1#1 ↔ x.val = 0)
    ∧ (Scalar.cmpi .ne (Scalar.extui (Scalar.cmpi .slt (BitVec.ofNat 32 x.val) 1#32)) 0#32 = 1#1 ↔ x.val = 0) := by decide +kernel

/-- The body at any point, from any contents: the inputs stay, everything else ends at some contents. -/
theorem body_any (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (X3 : BufTy.Contents (Elt F) a3.view.ty) (X4 : BufTy.Contents (Elt F) a4.view.ty) (X5 : BufTy.Contents (Elt F) a5.view.ty)
    (f6 : BufTy.Contents (Elt F) a6.view.ty) (f7 : BufTy.Contents (Elt F) a7.view.ty) (f8 : BufTy.Contents (Elt F) a8.view.ty) (f9 : BufTy.Contents (Elt F) a9.view.ty) :
    iprop(pt c a3 X3 ∗ pt c a4 X4 ∗ pt c a5 X5 ∗ pt c a6 f6 ∗ pt c a7 f7 ∗ pt c a8 f8 ∗ pt c a9 f9)
      ⊢ wp frame (wpE (defs₀ (F := F)) Variants.none (c : Thread nD τ) none) Set.univ (cc0_flash_attention (F := F) i a3 h3 a4 h4 a5 h5 a6 h6 a7 h7 a8 h8 a9 h9)
          (fun _ => iprop(pt c a3 X3 ∗ pt c a4 X4 ∗ pt c a5 X5 ∗ (∃ f, pt c a6 f) ∗ (∃ f, pt c a7 f) ∗ (∃ f, pt c a8 f) ∗ (∃ f, pt c a9 f))) := by
  have post : ∀ g6 g7 g8 g9, (iprop(pt c a3 X3 ∗ pt c a4 X4 ∗ pt c a5 X5 ∗ pt c a6 g6 ∗ pt c a7 g7 ∗ pt c a8 g8 ∗ pt c a9 g9) : sProp 𝕄)
      ⊢ iprop(pt c a3 X3 ∗ pt c a4 X4 ∗ pt c a5 X5 ∗ (∃ f, pt c a6 f) ∗ (∃ f, pt c a7 f) ∗ (∃ f, pt c a8 f) ∗ (∃ f, pt c a9 f)) := by
    intro g6 g7 g8 g9
    iintro ⟨H3, H4, H5, H6, H7, H8, H9⟩
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  by_cases h0 : (i 2).val = 0
  · exact ((runCtx c i a3 h3 a4 h4 a5 h5 a6 h6 a7 h7 a8 h8 a9 h9 X3 X4 X5 f9 ((ctx_conds (i 2)).1.2 h0) ((ctx_conds (i 2)).2.2 h0)).2.2.2.2 Set.univ f6 f7 f8).trans
      (wp_mono _ _ _ fun _ => post _ _ _ _)
  · have hc1 := mt (ctx_conds (i 2)).1.1 h0
    have hc2 : ¬ k0_cond2 i = 1#1 := mt (ctx_conds (i 2)).2.1 h0
    by_cases hb : okBit a3 a9 X3 f9 = 1#1
    · exact ((runBnd c i a3 h3 a4 h4 a5 h5 a6 h6 a7 h7 a8 h8 a9 h9 X3 X4 X5 f9 hc1 hc2 hb).2.2.2.2 Set.univ f6 f7 f8).trans
        (wp_mono _ _ _ fun _ => post _ _ _ _)
    · exact ((runOnl c i a3 h3 a4 h4 a5 h5 a6 h6 a7 h7 a8 h8 a9 h9 X3 X4 X5 f9 hc1 hc2 hb).2.2.2.2 Set.univ f6 f7 f8).trans
        (wp_mono _ _ _ fun _ => post _ _ _ _)

/-- The body table's row at the point. -/
theorem defs₀_row (t : Fin cfg0.N) : defs₀ (F := F) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-- For the frame: the inputs' blocks, the output window's contents left unnamed. -/
def dats (_ : Fin 1) (c : Dev nD) : Dat τ (Elt F) Unit ℕ (UR sig nD τ) ℕ cfg0 c where
  A w := V m c (arrRef spec0 w)
  after := fun
    | 0 => fun t => iblk m c 0 t
    | 1 => fun t => iblk m c 1 t
    | 2 => fun t => iblk m c 2 t
    | 3 => Dat.unnamed (cfg := cfg0) 3
    | ⟨_ + 4, h⟩ => absurd h (Nat.not_lt.2 (Nat.le_add_left _ _))
  Φ _ := ΦA spec0 c
  q _ := fullShare
  owed _ := 0

/-- The output window is the one nothing is said of. -/
def fgt : Fin 4 → Bool := fun w => decide (w = 3)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

theorem A_eq (c : Dev nD) (w : Fin cfg0.W) : (dats m 0 c).A w = V m c (arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d

/-- The body at the point, the invariant opened into the three scratch buffers. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2]
  rw [show (dats m 0 c).Φ t.succ = (dats m 0 c).Φ t.castSucc from rfl,
    show (dats m 0 c).owesAt () t.succ = (dats m 0 c).owesAt () t.castSucc from rfl,
    show (dats m 0 c).Φ t.castSucc = ΦA spec0 c from rfl]
  unfold ΦA
  rw [scopedRest0_eq]
  unfold owns
  iintro ⟨⟨⟨⟨%f7, H7⟩, ⟨%f8, H8⟩, ⟨%f9, H9⟩⟩, Hr⟩, HO, ⟨%d0, %X3, %e3, H3⟩, ⟨%d1, %X4, %e4, H4⟩, ⟨%d2, %X5, %e5, H5⟩, ⟨%d3, %f6, -, H6⟩⟩
  ihave Hw : wp frame (wpE (defs₀ (F := F)) Variants.none (c : Thread nD τ) none) Set.univ (bodyAt0 t) (fun _ => iprop(pt c (st0_0 t) X3 ∗ pt c (st0_1 t) X4 ∗ pt c (st0_2 t) X5 ∗ (∃ f, pt c (st0_3 t) f) ∗ (∃ f, pt c (Memref.whole cc0_scratch0) f) ∗ (∃ f, pt c (Memref.whole cc0_scratch1) f) ∗ (∃ f, pt c (Memref.whole cc0_scratch2) f))) $$ [H3 H4 H5 H6 H7 H8 H9]
  · unfold bodyAt0
    iapply (body_any c (grid0.coords t) (st0_0 t) _ (st0_1 t) _ (st0_2 t) _ (st0_3 t) _ _ _ _ _ _ _ X3 X4 X5 f6 f7 f8 f9)
    isplitl [H3]; · iexact H3
    isplitl [H4]; · iexact H4
    isplitl [H5]; · iexact H5
    isplitl [H6]; · iexact H6
    isplitl [H7]; · simp only [pt, View.set_whole]; iexact H7
    isplitl [H8]; · simp only [pt, View.set_whole]; iexact H8
    simp only [pt, View.set_whole]; iexact H9
  iapply (wp_wand_r _ _ _)
  isplitl [Hw]; · iexact Hw
  iintro %a ⟨H3, H4, H5, ⟨%g6, H6⟩, H7, H8, H9⟩
  simp only [pt, View.set_whole]
  isplitl [H7 H8 H9 Hr]
  · isplitr [Hr]; swap; · iexact Hr
    isplitl [H7]; · iexact H7
    isplitl [H8]; · iexact H8
    iexact H9
  isplitl [HO]; · iexact HO
  isplitl [H3]
  · iexists X3; isplitr; swap; · iexact H3
    ipureintro; exact e3
  isplitl [H4]
  · iexists X4; isplitr; swap; · iexact H4
    ipureintro; exact e4
  isplitl [H5]
  · iexists X5; isplitr; swap; · iexact H5
    ipureintro; exact e5
  iexists _, g6; isplitr; swap; · iexact H6
  ipureintro; rfl

theorem body_obligation (c : Dev nD) :
    BodyObligation (dats m 0 c) (defs₀ (F := F)) Variants.none () Set.univ fgt := fun t => by
  rw [bigSep_W0, bigSep_W0, defs₀_row]
  exact triple_restated (sound_body m c t) rfl .rfl fun _ => .rfl

theorem run_main :
    θ_run defs (onTc (τ := τ) (main (F := F))) (s₀ m ρ)
      (fun r => RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The run ends with the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c)⟩, h.2⟩) (run_main m ρ)

end Cert.Proof

end
-- ==== Proof.Math.lean ====
module

public import Idealize.ShloMosaic.PureOps.Ideal
public import Idealize.ShloMosaic.Lib.Pointwise
public import Mathlib.Analysis.SpecialFunctions.Pow.Real

@[expose] public section

noncomputable section

namespace Cert.Proof

open Idealize.ShloMosaic

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases le_total x y with h | h
  · rwa [max_eq_right h]
  · rwa [max_eq_left h]
theorem IsR.bot_max {y : EReal} (hy : IsR y) : IsR (Max.max ⊥ y) := by rwa [max_eq_right bot_le]
theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem IsR.eq_toReal {x : EReal} (h : IsR x) : x = (x.toReal : EReal) := by
  obtain ⟨r, rfl⟩ := h; rw [EReal.toReal_coe]

/-- The largest of finitely many reals, at least one of them, is real. -/
theorem IsR.fold_max {ι : Type} (s : Finset ι) (f : ι → EReal) (h : ∀ i, IsR (f i)) (hs : s.Nonempty) :
    IsR (s.fold Max.max ⊥ f) := by
  classical
  induction s using Finset.induction_on with
  | empty => exact absurd hs Finset.not_nonempty_empty
  | insert a s ha ih =>
    rw [Finset.fold_insert ha]
    rcases s.eq_empty_or_nonempty with rfl | hn
    · simpa using h a
    · exact (h a).max (ih hn)

theorem ofBits_negInf : Ideal.ofBits .f32 0xFF800000#32 = ⊥ := by
  simp [Ideal.ofBits, Ideal.ieee]

/-- A real, nonnegative factor goes into a sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_sub {x c : EReal} (hx : IsR x) (hc : IsR c) : Ideal.exp2 (x - c) = (((2 : ℝ) ^ (x.toReal - c.toReal) : ℝ) : EReal) := by
  obtain ⟨a, rfl⟩ := hx; obtain ⟨b, rfl⟩ := hc
  rw [← EReal.coe_sub, Ideal.exp2_coe, EReal.toReal_coe, EReal.toReal_coe]; rfl

/-- The weight of position `k` among the first `n`, the scores `s` taken as powers of two. -/
def wt (n : ℕ) (s : ℕ → EReal) (k : ℕ) : ℝ :=
  (2 : ℝ) ^ (s k).toReal / ∑ j ∈ Finset.range n, (2 : ℝ) ^ (s j).toReal

/-- The average of the values `v` with these weights. -/
def avg (n : ℕ) (s v : ℕ → EReal) : EReal := ∑ k ∈ Finset.range n, (wt n s k : EReal) * v k

/-- The values weighted by powers of two taken from any base `c`. -/
def acc (n : ℕ) (s : ℕ → EReal) (c : EReal) (v : ℕ → EReal) : EReal :=
  ∑ k ∈ Finset.range n, Ideal.exp2 (s k - c) * v k

/-- Dividing by the sum of the weights: the average, whatever the base. -/
theorem div_acc (n : ℕ) (hn : 0 < n) (s v w : ℕ → EReal) (c : EReal) (hs : ∀ k, IsR (s k)) (hc : IsR c) (hw : ∀ k, w k = 1) :
    Ideal.div (acc n s c v) (acc n s c w) = avg n s v := by
  set S : ℝ := ∑ j ∈ Finset.range n, (2 : ℝ) ^ ((s j).toReal - c.toReal) with hS
  have hne : (Finset.range n).Nonempty := Finset.nonempty_range_iff.2 hn.ne'
  have hpos : 0 < S := Finset.sum_pos (fun j _ => Real.rpow_pos_of_pos two_pos _) hne
  have hden : acc n s c w = (S : EReal) := by
    rw [hS, coe_sum]
    refine Finset.sum_congr rfl fun k _ => ?_
    rw [hw, mul_one, exp2_sub (hs k) hc]
  have hS0 : (S : EReal) ≠ 0 := by exact_mod_cast hpos.ne'
  rw [hden, Ideal.div, if_neg hS0, ← EReal.coe_inv, acc, sum_mul_coe _ _ _ (inv_nonneg.2 hpos.le)]
  refine Finset.sum_congr rfl fun k _ => ?_
  rw [exp2_sub (hs k) hc, mul_right_comm, ← EReal.coe_mul]
  congr 2
  have hT : S = (∑ j ∈ Finset.range n, (2 : ℝ) ^ (s j).toReal) / (2 : ℝ) ^ c.toReal := by
    rw [hS, Finset.sum_div]
    exact Finset.sum_congr rfl fun j _ => Real.rpow_sub two_pos _ _
  have h2 : (2 : ℝ) ^ c.toReal ≠ 0 := (Real.rpow_pos_of_pos two_pos _).ne'
  have hT0 : (∑ j ∈ Finset.range n, (2 : ℝ) ^ (s j).toReal) ≠ 0 := (Finset.sum_pos (fun j _ => Real.rpow_pos_of_pos two_pos _) hne).ne'
  rw [wt, hT, Real.rpow_sub two_pos]
  field_simp

/-- The weights change base by one factor. -/
theorem acc_rebase (n : ℕ) (s v : ℕ → EReal) (c c' : EReal) (hs : ∀ k, IsR (s k)) (hc : IsR c) (hc' : IsR c') :
    Ideal.exp2 (c - c') * acc n s c v = acc n s c' v := by
  rw [exp2_sub hc hc', mul_comm, acc, acc, sum_mul_coe _ _ _ (Real.rpow_nonneg two_pos.le _)]
  refine Finset.sum_congr rfl fun k _ => ?_
  rw [exp2_sub (hs k) hc, exp2_sub (hs k) hc', mul_right_comm, ← EReal.coe_mul, ← Real.rpow_add two_pos]
  congr 3
  ring_nf

theorem acc_zero (s v : ℕ → EReal) (c : EReal) : acc 0 s c v = 0 := by simp [acc]

/-- A further stretch of positions. -/
theorem acc_add (n l : ℕ) (s v : ℕ → EReal) (c : EReal) :
    acc (n + l) s c v = acc n s c v + ∑ j : Fin l, Ideal.exp2 (s (n + j) - c) * v (n + j) := by
  rw [acc, Finset.sum_range_add, acc, Fin.sum_univ_eq_sum_range (fun j => Ideal.exp2 (s (n + j) - c) * v (n + j))]

/-- One step of the running form: the old sum moved to the new base, the new stretch added. -/
theorem acc_step (n l : ℕ) (s v : ℕ → EReal) (c c' : EReal) (hs : ∀ k, IsR (s k)) (hc : IsR c ∨ n = 0 ∧ c = ⊥) (hc' : IsR c') :
    Ideal.exp2 (c - c') * acc n s c v + (∑ j : Fin l, Ideal.exp2 (s (n + j) - c') * v (n + j)) = acc (n + l) s c' v := by
  rw [acc_add]
  congr 1
  rcases hc with hc | ⟨rfl, rfl⟩
  · exact acc_rebase n s v c c' hs hc hc'
  · rw [acc_zero, acc_zero, mul_zero]

end Cert.Proof

end
-- ==== Proof.Reads.lean ====
module

public import proofs.«01_k».proof.Proof.RunBase
public import proofs.«01_k».proof.Proof.Math
public import Idealize.ShloMosaic.Lib.Pointwise
public import Idealize.ShloMosaic.Lib.Pipeline.ReadBack

@[expose] public section

set_option maxRecDepth 16384

noncomputable section

namespace Cert.Proof

open Cert.KernelIdeal Cert.KernelIdeal.Gen
open Idealize.ShloMosaic Idealize.ShloMosaic.TcCoe Idealize.ShloMosaic.Tactic

/-- A row's score against a key: the row is query `R % 256` of head `R / 256`. -/
def sc (Q : S1x4x256x128.Idx → EReal) (K : S1x1x8448x128.Idx → EReal) (R : Fin 1024) (k : ℕ) : EReal :=
  ∑ d : Fin 128, Q (ix4 0 ⟨R / 256, by omega⟩ ⟨R % 256, by omega⟩ d) * K (ix4 0 0 ⟨k % 8448, by omega⟩ d)

/-- Column `d` of the value block. -/
def vc (V : S1x1x8448x256.Idx → EReal) (d : Fin 256) (k : ℕ) : EReal := V (ix4 0 0 ⟨k % 8448, by omega⟩ d)

theorem sc_isR {Q : S1x4x256x128.Idx → EReal} {K : S1x1x8448x128.Idx → EReal} (hQ : ∀ x, IsR (Q x)) (hK : ∀ x, IsR (K x))
    (R : Fin 1024) (k : ℕ) : IsR (sc Q K R k) := IsR.sum _ _ fun _ _ => (hQ _).mul (hK _)

theorem k_at (K : S1x1x8448x128.Idx → EReal) (a b : Fin 1) (x : Fin 8448) (d d' : Fin 128) (n : ℕ) (h : x.val = n) (hd : d.val = d'.val) :
    K (ix4 a b x d) = K (ix4 0 0 ⟨n % 8448, by omega⟩ d') := by
  subst h
  have e1 : a = 0 := Subsingleton.elim _ _
  have e2 : b = 0 := Subsingleton.elim _ _
  have e3 : (⟨x.val % 8448, by omega⟩ : Fin 8448) = x := Fin.ext (Nat.mod_eq_of_lt x.isLt)
  rw [e1, e2, e3, Fin.ext hd]

theorem v_at (V : S1x1x8448x256.Idx → EReal) (a b : Fin 1) (x : Fin 8448) (d d' : Fin 256) (n : ℕ) (h : x.val = n) (hd : d.val = d'.val) :
    V (ix4 a b x d) = vc V d' n := by
  subst h
  have e1 : a = 0 := Subsingleton.elim _ _
  have e2 : b = 0 := Subsingleton.elim _ _
  have e3 : (⟨x.val % 8448, by omega⟩ : Fin 8448) = x := Fin.ext (Nat.mod_eq_of_lt x.isLt)
  rw [vc, e1, e2, e3, Fin.ext hd]

/-- A rectangle's place of an index, coordinate by coordinate. -/
theorem emb_eq_norm {s : Shape} (r : Rect s) (x : r.shape.Idx) :
    r.emb x = Shape.Idx.norm fun a => ⟨r.off a + r.stride a * (x a).val, r.coord_lt a (x a).isLt⟩ := rfl

/-- The output block: average of the values over the first `n` keys, heads side by side. -/
def outG (n : ℕ) (Q : S1x4x256x128.Idx → EReal) (K : S1x1x8448x128.Idx → EReal) (V : S1x1x8448x256.Idx → EReal) : S1x256x512.Idx → EReal := fun y =>
  avg n (sc Q K ⟨(y 2).val / 128 * 256 + (y 1).val, by
    have h1 : (y 1).val < 256 := (y 1).isLt
    have h2 : (y 2).val < 512 := (y 2).isLt
    omega⟩) (vc V ⟨(y 2).val % 128, by omega⟩)

theorem outG_at (n : ℕ) (Q : S1x4x256x128.Idx → EReal) (K : S1x1x8448x128.Idx → EReal) (V : S1x1x8448x256.Idx → EReal)
    (g : ℕ) (x0 : Fin 1) (x1 : Fin 256) (x2 : Fin 512) (R : Fin 1024) (d : Fin 128) (d' : Fin 256) (hR : R.val = 256 * g + x1) (hd : x2.val = 128 * g + d) (hd' : d'.val = d.val) :
    avg n (sc Q K R) (vc V d') = outG n Q K V (ix3 x0 x1 x2) := by
  have e1 : R = ⟨x2.val / 128 * 256 + x1.val, by omega⟩ := Fin.ext (by show R.val = x2.val / 128 * 256 + x1.val; omega)
  have e2 : d' = ⟨x2.val % 128, by omega⟩ := Fin.ext (by show d'.val = x2.val % 128; omega)
  exact congrArg₂ (fun R d => avg n (sc Q K R) (vc V d)) e1 e2

theorem readAt_q (a3 : Memref Cert.KernelIdeal.sig .tc .vmem S1x4x256x128 .bf16) (X3 : BufTy.Contents (Elt Ideal) a3.view.ty)
    (inb : ∀ a, (![0, 0, 0, 0] : Fin 4 → ℕ) a + S1x4x256x128.size a ≤ S1x4x256x128.size a) :
    View.readAt (Elt Ideal) a3.view (Rect.unit (s := S1x4x256x128) ![0, 0, 0, 0] S1x4x256x128.size inb).toLoadRect X3 = a3.view.read (Elt Ideal) X3 := by
  funext x
  rw [View.readAt_apply]
  congr 1
  funext a
  apply Fin.ext
  fin_cases a <;> simp [LoadRect.idx]

/-- Rows of 64, the last one stored first in the list, cover a box of rows. -/
def rowsCov : ℕ → LoadRect.Cov
  | 0 => .leaf 0
  | n + 1 => .split 1 64 (.leaf (n + 1)) (rowsCov n)

section
variable {sig : RefSig} {κ : Kind} {sp : Space} {s : Shape} {e : EltTy} {Val : EltTy → Type}

/-- A load of a box the pieces cover, where every piece holds the function `G` at its own place. -/
theorem readCov_of [∀ e, Nonempty (Val e)] (v : View sig κ sp s e) (L : List (View.Piece Val s e)) (B : LoadRect s) (G : s.Idx → Val e)
    (hG : ∀ p ∈ L, ∀ x : p.1.shape.Idx, p.2 x = G (p.1.emb x)) (hc : ∀ j : B.shape.Idx, ∃ p ∈ L, B.idx j ∈ p.1.set) :
    v.readCov L B = fun j => G (B.idx j) :=
  funext fun j => View.read_writes_apply_of_pieces v _ G L hG _ (hc j)

/-- What is read through the view after the pieces, where they cover. -/
theorem read_writes_of (v : View sig κ sp s e) (f : v.ty.Contents Val) (L : List (View.Piece Val s e)) (G : s.Idx → Val e)
    (hG : ∀ p ∈ L, ∀ x : p.1.shape.Idx, p.2 x = G (p.1.emb x)) (y : s.Idx) (hc : ∃ p ∈ L, y ∈ p.1.set) :
    v.read Val (v.writes Val f L) y = G y :=
  View.read_writes_apply_of_pieces v _ G L hG _ hc
end

end Cert.Proof

end
-- ==== Proof.ValBnd.lean ====
module

public import proofs.«01_k».proof.Proof.RunBnd
public import proofs.«01_k».proof.Proof.Reads

@[expose] public section

set_option maxRecDepth 16384

noncomputable section

namespace Cert.Proof

open Cert.KernelIdeal Cert.KernelIdeal.Gen
open Idealize.ShloMosaic Idealize.ShloMosaic.TcCoe Idealize.ShloMosaic.Tactic

/-- What the bounded step keeps in a slot: the tile's powers of two, from the base `b`. -/
def pw (Q : S1x4x256x128.Idx → EReal) (K : S1x1x8448x128.Idx → EReal) (b : Fin 1024 → EReal) (n : ℕ) (R : Fin 1024) (j : Fin 1408) : EReal :=
  Ideal.exp2 (sc Q K R (n + j) - b R)

variable (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (v20 : FVec Ideal S1024x1 .f32) (v35 : Vec Ideal S1x4x256x128 .bf16)
    (X4 : BufTy.Contents (Elt Ideal) a4.view.ty) (X5 : BufTy.Contents (Elt Ideal) a5.view.ty)

/-- The two slots after a trip. -/
def bndG (k : ℕ) : S2x1024x1408.Idx → EReal := fun y =>
  pw v35 (a4.view.read (Elt Ideal) X4) (fun R => v20 (ix2 R 0)) (if (y 0).val = 0 then 2816 * k + 2816 else 2816 * k + 1408) (y 1) (y 2)

theorem bnd_pieces (k : Fin k0_t1_loop.trips) :
    ∀ p ∈ trip_k0_t1.sl.HW_arg8_2 a4 v20 v35 X4 k, ∀ x : p.1.shape.Idx, p.2 x = bndG a4 v20 v35 X4 k (p.1.emb x) := by
  have hk : (k : ℕ) < 2 := k.isLt
  unfold trip_k0_t1.sl.HW_arg8_2
  simp only [List.forall_mem_cons, List.not_mem_nil, false_imp_iff, implies_true, and_true]
  refine ⟨fun x => ?_, fun x => ?_⟩
  · have e : k0_off3 k 2#32 = ![0, 0, 2816 * k.val + 1408 * 1 + 1408, 0] := k0_off3_eq k 1
    have e2 : k0_off3 k 2#32 2 = 2816 * k.val + 2816 := by rw [e]; rfl
    have e3 : k0_off3 k 2#32 3 = 0 := by rw [e]; rfl
    idx_vars x
    pointwise [trip_k0_t1.sl.r_1, trip_k0_t1.sl.cst_85, k0_pay50, k0_pay47, k0_pay46, View.readAt_apply, bndG, emb_eq_norm]
    refine congrArg Ideal.exp2 (congrArg (· - _) (Finset.sum_congr rfl fun d _ => congrArg (_ * ·) ?_))
    exact k_at _ _ _ _ _ _ _ (by show k0_off3 k 2#32 2 + x2.val = _; rw [e2]) (by show k0_off3 k 2#32 3 + d.val = _; rw [e3]; omega)
  · have e : k0_off3 k 1#32 = ![0, 0, 2816 * k.val + 1408 * 0 + 1408, 0] := k0_off3_eq k 0
    have e2 : k0_off3 k 1#32 2 = 2816 * k.val + 1408 := by rw [e]; rfl
    have e3 : k0_off3 k 1#32 3 = 0 := by rw [e]; rfl
    idx_vars x
    pointwise [k0_pay44, k0_pay47, View.readAt_apply, bndG, emb_eq_norm]
    refine congrArg Ideal.exp2 (congrArg (· - _) (Finset.sum_congr rfl fun d _ => congrArg (_ * ·) ?_))
    exact k_at _ _ _ _ _ _ _ (by show k0_off3 k 1#32 2 + x2.val = _; rw [e2]) (by show k0_off3 k 1#32 3 + d.val = _; rw [e3]; omega)

theorem bnd_cover (k : Fin k0_t1_loop.trips) (y : S2x1024x1408.Idx) :
    ∃ p ∈ trip_k0_t1.sl.HW_arg8_2 a4 v20 v35 X4 k, y ∈ p.1.set := by
  unfold trip_k0_t1.sl.HW_arg8_2
  exact View.cover_of_tiledL _ ![1, 1024, 1408] (by sl_kernel_rfl) y

/-- One trip adds two tiles. -/
theorem bnd_trip (k : Fin k0_t1_loop.trips) (a : FVec Ideal S1024x256 .f32) (f8 : BufTy.Contents (Elt Ideal) a8.view.ty)
    (hf : ∀ R j, a8.view.read (Elt Ideal) f8 (ix3 0 R j) = pw v35 (a4.view.read (Elt Ideal) X4) (fun R => v20 (ix2 R 0)) (2816 * k) R j)
    (R : Fin 1024) (d : Fin 256)
    (ha : a (ix2 R d) = acc (2816 * k) (sc v35 (a4.view.read (Elt Ideal) X4) R) (v20 (ix2 R 0)) (vc (a5.view.read (Elt Ideal) X5) d)) :
    tripR_k0_t1 Variants.none c none i a3 h3 a4 h4 a5 h5 a6 h6 a7 h7 a8 h8 a9 h9 v20 v35 X4 X5 k a f8 (ix2 R d)
      = acc (2816 * (k + 1)) (sc v35 (a4.view.read (Elt Ideal) X4) R) (v20 (ix2 R 0)) (vc (a5.view.read (Elt Ideal) X5) d) := by
  have hk : (k : ℕ) < 2 := k.isLt
  have e4 := k0_off4_eq k
  have e42 : k0_off4 k 2 = 2816 * k.val := by rw [e4]; rfl
  have e43 : k0_off4 k 3 = 0 := by rw [e4]; rfl
  have e5 := k0_off5_eq k
  have e52 : k0_off5 k 2 = 2816 * k.val + 1408 := by rw [e5]; rfl
  have e53 : k0_off5 k 3 = 0 := by rw [e5]; rfl
  have e138 : trip_k0_t1.sl.v138 a4 a8 v20 v35 X4 k = _ :=
    readCov_of a8.view _ _ (bndG a4 v20 v35 X4 k) (bnd_pieces a4 v20 v35 X4 k) fun j => bnd_cover a4 v20 v35 X4 k _
  unfold tripR_k0_t1 trip_k0_t1
  dsimp only
  rw [e138]
  pointwise [k0_pay51, trip_k0_t1.sl.r, k0_pay45, trip_k0_t1.sl.v112, View.readAt_apply, bndG]
  rw [ha, show 2816 * ((k : ℕ) + 1) = 2816 * k + 1408 + 1408 by omega, acc_add, acc_add]
  refine congrArg₂ (· + ·) (congrArg (_ + ·) (Finset.sum_congr rfl fun x _ => congrArg₂ (· * ·) ?_ ?_)) (Finset.sum_congr rfl fun x _ => congrArg₂ (· * ·) ?_ ?_)
  · exact hf R x
  · exact v_at _ _ _ _ _ _ _ (by show k0_off4 k 2 + x.val = _; rw [e42]) (by show k0_off4 k 3 + d.val = _; rw [e43]; omega)
  · rfl
  · exact v_at _ _ _ _ _ _ _ (by show k0_off5 k 2 + x.val = _; rw [e52]) (by show k0_off5 k 3 + d.val = _; rw [e53]; omega)

/-- Before trip `k`: the tiles summed so far, and the slot that holds the next. -/
theorem bnd_state (G8 : BufTy.Contents (Elt Ideal) a8.view.ty)
    (hf : ∀ R j, a8.view.read (Elt Ideal) G8 (ix3 0 R j) = pw v35 (a4.view.read (Elt Ideal) X4) (fun R => v20 (ix2 R 0)) 0 R j)
    (init : FVec Ideal S1024x256 .f32) (hi : ∀ x, init x = 0) : ∀ k : ℕ, k ≤ k0_t1_loop.trips →
    (∀ R d, (st_k0_t1 Variants.none c none i a3 h3 a4 h4 a5 h5 a6 h6 a7 h7 a8 h8 a9 h9 v20 v35 X4 X5 G8 init k).1 (ix2 R d)
      = acc (2816 * k) (sc v35 (a4.view.read (Elt Ideal) X4) R) (v20 (ix2 R 0)) (vc (a5.view.read (Elt Ideal) X5) d)) ∧
    (∀ f, (k = 0 → f = G8) → ∀ R j, a8.view.read (Elt Ideal) (a8.view.writes (Elt Ideal) f (st_k0_t1 Variants.none c none i a3 h3 a4 h4 a5 h5 a6 h6 a7 h7 a8 h8 a9 h9 v20 v35 X4 X5 G8 init k).2) (ix3 0 R j)
      = pw v35 (a4.view.read (Elt Ideal) X4) (fun R => v20 (ix2 R 0)) (2816 * k) R j)
  | 0, _ => by
    refine ⟨fun R d => ?_, fun f hff R j => ?_⟩
    · rw [st_k0_t1_zero, hi, Nat.mul_zero, acc_zero]
    · rw [hff rfl]; exact hf R j
  | k + 1, hk => by
    obtain ⟨h1, h2⟩ := bnd_state G8 hf init hi k (Nat.le_of_succ_le hk)
    have e := st_k0_t1_succ Variants.none c none i a3 h3 a4 h4 a5 h5 a6 h6 a7 h7 a8 h8 a9 h9 v20 v35 X4 X5 G8 init ⟨k, hk⟩
    simp only at e
    rw [e]
    refine ⟨fun R d => ?_, fun f _ R j => ?_⟩
    · exact bnd_trip c i a3 h3 a4 h4 a5 h5 a6 h6 a7 h7 a8 h8 a9 h9 v20 v35 X4 X5 ⟨k, hk⟩ _ _ (h2 G8 fun _ => rfl) R d (h1 R d)
    · rw [View.writes_append]
      unfold tripL_k0_t1 trip_k0_t1
      dsimp only
      rw [read_writes_of a8.view _ _ _ (bnd_pieces a4 v20 v35 X4 ⟨k, hk⟩) _ (bnd_cover a4 v20 v35 X4 ⟨k, hk⟩ _)]
      rfl

theorem isR_1p01 : IsR (Ideal.ofBits .f32 0x3F8147AE#32) := by
  simp only [Ideal.ofBits, Ideal.ieee]; exact ⟨_, rfl⟩
theorem isR_0p01 : IsR (Ideal.ofBits .f32 0x3C23D70A#32) := by
  simp only [Ideal.ofBits, Ideal.ieee]; exact ⟨_, rfl⟩

theorem IsR.mul_self_sum {ι : Type} (s : Finset ι) (f : ι → EReal) (h : ∀ i, IsR (f i)) : IsR (Ideal.sqrt (∑ i ∈ s, f i * f i)) := by
  choose g hg using h
  have e : ∑ i ∈ s, f i * f i = ((∑ i ∈ s, g i * g i : ℝ) : EReal) := by
    rw [coe_sum]
    exact Finset.sum_congr rfl fun i _ => by rw [hg, EReal.coe_mul]
  rw [e, Ideal.sqrt_coe, if_neg (not_lt.2 (Finset.sum_nonneg fun i _ => mul_self_nonneg (g i)))]
  exact ⟨_, rfl⟩

/-- The bound on a row is a real number. -/
theorem bound_isR (q : Vec Ideal S1x4x256x128 .bf16) (n : Vec Ideal S1x1 .f32) (hq : ∀ x, IsR (q x)) (hn : ∀ x, IsR (n x)) (R : Fin 1024) :
    IsR (k0_pay241 q n (ix2 R 0)) := by
  pointwise [k0_pay241]
  exact (((IsR.mul_self_sum _ _ fun x => hq _).mul (hn _)).mul isR_1p01).add isR_0p01

variable (X3 : BufTy.Contents (Elt Ideal) a3.view.ty) (f9 : BufTy.Contents (Elt Ideal) a9.view.ty)
    (hc1 : ¬ Scalar.cmpi .ne (Scalar.extui (Scalar.cmpi .eq (BitVec.ofNat 32 (i 2).val) 0#32)) 0#32 = 1#1)
    (hc2 : ¬ k0_cond2 i = 1#1) (hb : okBit a3 a9 X3 f9 = 1#1)

theorem bnd_pay48 (R : Fin 1024) (j : Fin 1408) (inb) :
    k0_pay48 v20 v35 (View.readAt (Elt Ideal) a4.view (Rect.unit (s := S1x1x8448x128) ![0, 0, 0, 0] S1x1x1408x128.size inb).toLoadRect X4) (ix3 0 R j)
      = pw v35 (a4.view.read (Elt Ideal) X4) (fun R => v20 (ix2 R 0)) 0 R j := by
  pointwise [k0_pay48, k0_pay47, View.readAt_apply]
  refine congrArg Ideal.exp2 (congrArg (· - _) (Finset.sum_congr rfl fun d _ => congrArg (_ * ·) ?_))
  exact k_at _ _ _ _ _ _ _ (by simp) (by simp)

theorem bnd_pay52 (R : Fin 1024) (j : Fin 1408) (inb) :
    k0_pay52 v20 v35 (View.readAt (Elt Ideal) a4.view (Rect.unit (s := S1x1x8448x128) ![0, 0, 7040, 0] S1x1x1408x128.size inb).toLoadRect X4) (ix3 0 R j)
      = pw v35 (a4.view.read (Elt Ideal) X4) (fun R => v20 (ix2 R 0)) 7040 R j := by
  pointwise [k0_pay52, k0_pay47, View.readAt_apply]
  refine congrArg Ideal.exp2 (congrArg (· - _) (Finset.sum_congr rfl fun d _ => congrArg (_ * ·) ?_))
  exact k_at _ _ _ _ _ _ _ (by simp) (by simp)

theorem trips1 : Scf.trips k0_t1_loop.lb k0_t1_loop.ub k0_t1_loop.st = 2 := by decide +kernel

theorem bnd_fin (Q : S1x4x256x128.Idx → EReal) (K : S1x1x8448x128.Idx → EReal) (V : S1x1x8448x256.Idx → EReal) (b : Fin 1024 → EReal)
    (hQ : ∀ x, IsR (Q x)) (hK : ∀ x, IsR (K x)) (hV : ∀ k (d : Fin 128), V (ix4 0 0 k ⟨128 + d, by omega⟩) = 1) (hb : ∀ R, IsR (b R))
    (a : FVec Ideal S1024x256 .f32) (p : FVec Ideal S1024x1408 .bf16) (v : Vec Ideal S1x1x1408x256 .bf16) (p' : Vec Ideal S1x1024x1408 .bf16) (v' : Vec Ideal S1x1x1408x256 .bf16)
    (ha : ∀ R d, a (ix2 R d) = acc 5632 (sc Q K R) (b R) (vc V d)) (hp : ∀ R j, p (ix2 R j) = pw Q K b 5632 R j)
    (hv : ∀ j d, v (ix4 0 0 j d) = vc V d (5632 + j)) (hp' : ∀ R j, p' (ix3 0 R j) = pw Q K b 7040 R j) (hv' : ∀ j d, v' (ix4 0 0 j d) = vc V d (7040 + j))
    (R : Fin 1024) (d : Fin 128) :
    k0_pay54 a p v p' v' (ix2 R d) = avg 8448 (sc Q K R) (vc V ⟨d, by omega⟩) := by
  have h : ∀ d : Fin 256, a (ix2 R d) + (∑ x, p (ix2 R x) * v (ix4 0 0 x d)) + (∑ x, p' (ix3 0 R x) * v' (ix4 0 0 x d)) = acc 8448 (sc Q K R) (b R) (vc V d) := by
    intro d
    rw [ha, show (8448 : ℕ) = 5632 + 1408 + 1408 by rfl, acc_add, acc_add]
    refine congrArg₂ (· + ·) (congrArg (_ + ·) (Finset.sum_congr rfl fun x _ => congrArg₂ (· * ·) (hp R x) (hv x d))) (Finset.sum_congr rfl fun x _ => congrArg₂ (· * ·) (hp' R x) (hv' x d))
  pointwise [k0_pay54]
  refine (congrArg₂ Ideal.div (h _) (h _)).trans ?_
  exact div_acc 8448 (by decide) _ (vc V ⟨d, by omega⟩) (vc V ⟨128 + d, by omega⟩) (b R) (sc_isR hQ hK R) (hb R) (fun k => hV _ d)

theorem bnd_out (hQ : ∀ x, IsR (a3.view.read (Elt Ideal) X3 x)) (hK : ∀ x, IsR (a4.view.read (Elt Ideal) X4 x))
    (hV : ∀ k (d : Fin 128), a5.view.read (Elt Ideal) X5 (ix4 0 0 k ⟨128 + d, by omega⟩) = 1)
    (h9r : ∀ x, IsR (a9.view.read (Elt Ideal) f9 x)) (f6 f7 f8) (y : S1x256x512.Idx) :
    a6.view.read (Elt Ideal) ((runBnd c i a3 h3 a4 h4 a5 h5 a6 h6 a7 h7 a8 h8 a9 h9 X3 X4 X5 f9 hc1 hc2 hb).1 f6 f7 f8) y
      = outG 8448 (a3.view.read (Elt Ideal) X3) (a4.view.read (Elt Ideal) X4) (a5.view.read (Elt Ideal) X5) y := by
  unfold runBnd
  dsimp only
  have hb : ∀ R : Fin 1024, IsR (k0_pay241 (a3.view.read (Elt Ideal) X3)
      (View.readAt (Elt Ideal) a9.view (Rect.unit (s := S8x128) ![0, 0] S1x1.size inb_S8x128_S1x1_0_0).toLoadRect f9) (ix2 R 0)) :=
    bound_isR _ _ hQ fun x => h9r _
  have key : ∀ (R : Fin 1024) (d : Fin 128), k0_pay54 (runBnd.sl.r c i a3 h3 a4 h4 a5 h5 a6 h6 a7 h7 a8 h8 a9 h9 X3 X4 X5 f9 f8)
      (runBnd.sl.r_1 c i a3 h3 a4 h4 a5 h5 a6 h6 a7 h7 a8 h8 a9 h9 X3 X4 X5 f9 f8)
      (View.readAt (Elt Ideal) a5.view (Rect.unit (s := S1x1x8448x256) ![0, 0, 5632, 0] S1x1x1408x256.size inb_S1x1x8448x256_S1x1x1408x256_0_0_5632_0).toLoadRect X5)
      (runBnd.sl.v67 c i a3 h3 a4 h4 a5 h5 a6 h6 a7 h7 a8 h8 a9 h9 X3 X4 X5 f9 f8)
      (View.readAt (Elt Ideal) a5.view (Rect.unit (s := S1x1x8448x256) ![0, 0, 7040, 0] S1x1x1408x256.size inb_S1x1x8448x256_S1x1x1408x256_0_0_7040_0).toLoadRect X5)
      (ix2 R d) = avg 8448 (sc (a3.view.read (Elt Ideal) X3) (a4.view.read (Elt Ideal) X4) R) (vc (a5.view.read (Elt Ideal) X5) ⟨d, by omega⟩) := by
    intro R d
    rw [← readAt_q a3 X3 inb_S1x4x256x128_S1x4x256x128_0_0_0_0]
    set Q := View.readAt (Elt Ideal) a3.view (Rect.unit (s := S1x4x256x128) ![0, 0, 0, 0] S1x4x256x128.size inb_S1x4x256x128_S1x4x256x128_0_0_0_0).toLoadRect X3 with hQd
    set b := k0_pay241 Q (View.readAt (Elt Ideal) a9.view (Rect.unit (s := S8x128) ![0, 0] S1x1.size inb_S8x128_S1x1_0_0).toLoadRect f9) with hbd
    set G8 := a8.view.writes (Elt Ideal) f8 [⟨Rect.unit (s := S2x1024x1408) ![0, 0, 0] S1x1024x1408.size inb_S2x1024x1408_S1x1024x1408_0_0_0,
      k0_pay48 b Q (View.readAt (Elt Ideal) a4.view (Rect.unit (s := S1x1x8448x128) ![0, 0, 0, 0] S1x1x1408x128.size inb_S1x1x8448x128_S1x1x1408x128_0_0_0_0).toLoadRect X4)⟩] with hG8
    have hf : ∀ R j, a8.view.read (Elt Ideal) G8 (ix3 0 R j) = pw Q (a4.view.read (Elt Ideal) X4) (fun R => b (ix2 R 0)) 0 R j := by
      intro R j
      rw [hG8, show (ix3 0 R j : S2x1024x1408.Idx) = (Rect.unit (s := S2x1024x1408) ![0, 0, 0] S1x1024x1408.size inb_S2x1024x1408_S1x1024x1408_0_0_0).emb (ix3 0 R j) by
        rw [emb_eq_norm]; pointwise, View.read_writes_cons_emb]
      exact bnd_pay48 a4 b Q X4 R j _
    obtain ⟨s1, s2⟩ := bnd_state c i a3 h3 a4 h4 a5 h5 a6 h6 a7 h7 a8 h8 a9 h9 b Q X4 X5 G8 hf k0_pay49
      (fun x => by pointwise [k0_pay49]) (Scf.trips k0_t1_loop.lb k0_t1_loop.ub k0_t1_loop.st) (le_refl _)
    have e67 : ∀ (L) R j, View.readCov (Val := Elt Ideal) a8.view (⟨Rect.unit (s := S2x1024x1408) ![1, 0, 0] S1x1024x1408.size inb_S2x1024x1408_S1x1024x1408_1_0_0,
        k0_pay52 b Q (View.readAt (Elt Ideal) a4.view (Rect.unit (s := S1x1x8448x128) ![0, 0, 7040, 0] S1x1x1408x128.size inb_S1x1x8448x128_S1x1x1408x128_0_0_7040_0).toLoadRect X4)⟩ :: L)
        (Rect.unit (s := S2x1024x1408) ![1, 0, 0] S1x1024x1408.size inb_S2x1024x1408_S1x1024x1408_1_0_0).toLoadRect (ix3 0 R j)
        = pw Q (a4.view.read (Elt Ideal) X4) (fun R => b (ix2 R 0)) 7040 R j := by
      intro L R j
      rw [View.readCov_cons_toLoadRect]
      exact bnd_pay52 a4 b Q X4 R j _
    have e61 : ∀ (w) (L0) R j, View.readCov (Val := Elt Ideal) a8.view (⟨Rect.unit (s := S2x1024x1408) ![1, 0, 0] S1x1024x1408.size inb_S2x1024x1408_S1x1024x1408_1_0_0, w⟩ ::
          ((st_k0_t1 Variants.none c none i a3 h3 a4 h4 a5 h5 a6 h6 a7 h7 a8 h8 a9 h9 b Q X4 X5 G8 k0_pay49 (Scf.trips k0_t1_loop.lb k0_t1_loop.ub k0_t1_loop.st)).2 ++ L0))
        (Rect.unit (s := S2x1024x1408) ![0, 0, 0] S1x1024x1408.size inb_S2x1024x1408_S1x1024x1408_0_0_0).toLoadRect (ix3 0 R j)
        = pw Q (a4.view.read (Elt Ideal) X4) (fun R => b (ix2 R 0)) 5632 R j := by
      intro w L0 R j
      rw [View.readCov_skip]
      · rw [View.readCov, View.readAt_apply, View.writes_append, LoadRect.idx_eq_norm]
        pointwise
        exact s2 (a8.view.writes (Elt Ideal) a8.view.junk L0) (fun h => absurd h (by decide)) R j
      · decide
    refine bnd_fin Q (a4.view.read (Elt Ideal) X4) (a5.view.read (Elt Ideal) X5) (fun R => b (ix2 R 0)) (fun x => by rw [hQd, readAt_q]; exact hQ x) hK hV
      (fun R => ?_) _ _ _ _ _ (fun R d => s1 R d) (fun R j => ?_) (fun j d => ?_) (fun R j => e67 _ R j) (fun j d => ?_) R d
    · rw [hbd, hQd, readAt_q]; exact hb R
    · unfold runBnd.sl.r_1 runBnd.sl.v61 runBnd.sl.H8_1
      pointwise [k0_pay53]
      exact e61 _ _ R j
    · pointwise [View.readAt_apply]
      exact v_at _ _ _ _ _ _ _ rfl (by simp)
    · pointwise [View.readAt_apply]
      exact v_at _ _ _ _ _ _ _ rfl (by simp)
  refine read_writes_of a6.view _ _ _ ?_ y (View.cover_of_tiledL _ ![1, 256, 128] (by sl_kernel_rfl) y)
  simp only [List.forall_mem_cons, List.not_mem_nil, false_imp_iff, implies_true, and_true]
  refine ⟨fun x => ?_, fun x => ?_, fun x => ?_, fun x => ?_⟩
  · idx_vars x
    pointwise [k0_pay58, emb_eq_norm]
    exact (key _ _).trans (outG_at _ _ _ _ 3 _ _ _ _ _ _ rfl rfl rfl)
  · idx_vars x
    pointwise [k0_pay57, emb_eq_norm]
    exact (key _ _).trans (outG_at _ _ _ _ 2 _ _ _ _ _ _ rfl rfl rfl)
  · idx_vars x
    pointwise [k0_pay56, emb_eq_norm]
    exact (key _ _).trans (outG_at _ _ _ _ 1 _ _ _ _ _ _ rfl rfl rfl)
  · idx_vars x
    pointwise [k0_pay55, emb_eq_norm]
    exact (key _ _).trans (outG_at _ _ _ _ 0 _ _ _ _ _ _ (by simp) (by simp) rfl)

end Cert.Proof

end
-- ==== Proof.ValCtx.lean ====
module

public import proofs.«01_k».proof.Proof.RunCtx
public import proofs.«01_k».proof.Proof.Reads

@[expose] public section

set_option maxRecDepth 16384

noncomputable section

namespace Cert.Proof

open Cert.KernelIdeal Cert.KernelIdeal.Gen
open Idealize.ShloMosaic Idealize.ShloMosaic.TcCoe Idealize.ShloMosaic.Tactic

variable (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (X3 : BufTy.Contents (Elt Ideal) a3.view.ty)
    (X4 : BufTy.Contents (Elt Ideal) a4.view.ty) (X5 : BufTy.Contents (Elt Ideal) a5.view.ty)
    (hc1 : Scalar.cmpi .ne (Scalar.extui (Scalar.cmpi .eq (BitVec.ofNat 32 (i 2).val) 0#32)) 0#32 = 1#1)
    (hc2 : k0_cond2 i = 1#1)

/-- A row's greatest score over the first tile of 256 keys. -/
def ctxMax (Q : S1x4x256x128.Idx → EReal) (K : S1x1x8448x128.Idx → EReal) (R : Fin 1024) : EReal :=
  max (Ideal.ofBits .f32 4286578688#32) (Finset.fold max (Ideal.ofBits .f32 4286578688#32) (fun x : Fin 256 => sc Q K R x) Finset.univ)

theorem ctxMax_isR {Q : S1x4x256x128.Idx → EReal} {K : S1x1x8448x128.Idx → EReal} (hQ : ∀ x, IsR (Q x)) (hK : ∀ x, IsR (K x)) (R : Fin 1024) : IsR (ctxMax Q K R) := by
  unfold ctxMax
  rw [ofBits_negInf]
  exact (IsR.fold_max _ _ (fun x : Fin 256 => sc_isR hQ hK R x) Finset.univ_nonempty).bot_max

/-- The scores as they lie in the first slot. -/
def ctxS (Q : S1x4x256x128.Idx → EReal) (K : S1x1x8448x128.Idx → EReal) : S2x1024x1408.Idx → EReal := fun y => sc Q K (y 1) (y 2)

/-- The powers of two as they lie in the first slot. -/
def ctxP (Q : S1x4x256x128.Idx → EReal) (K : S1x1x8448x128.Idx → EReal) : S2x1024x1408.Idx → EReal := fun y =>
  Ideal.exp2 (sc Q K (y 1) (y 2) - ctxMax Q K (y 1))

theorem ctx_load (o : ℕ) (inb) : View.readCov (Val := Elt Ideal) a7.view (runCtx.sl.H7_1 i a3 a4 X3 X4 hc2) (Rect.unit (s := S2x1024x1408) ![0, o, 0] S1x64x256.size inb).toLoadRect
    = fun j => ctxS (a3.view.read (Elt Ideal) X3) (a4.view.read (Elt Ideal) X4) ((Rect.unit (s := S2x1024x1408) ![0, o, 0] S1x64x256.size inb).toLoadRect.idx j) := by
  refine readCov_of a7.view _ _ _ ?_ ?_
  · unfold runCtx.sl.H7_1
    simp only [List.forall_mem_cons, List.not_mem_nil, false_imp_iff, implies_true, and_true]
    intro x
    idx_vars x
    pointwise [k0_pay5, View.readAt_apply, emb_eq_norm, ctxS]
    have e2 : k0_off1 2 = 0 := by rw [k0_off1_eq]; rfl
    have e3 : k0_off1 3 = 0 := by rw [k0_off1_eq]; rfl
    refine Finset.sum_congr rfl fun d _ => congrArg (_ * ·) ?_
    exact k_at _ _ _ _ _ _ _ (by show k0_off1 2 + x2.val = _; rw [e2]; omega) (by show k0_off1 3 + d.val = _; rw [e3]; omega)
  · intro j
    refine ⟨_, List.mem_singleton.2 rfl, (Rect.mem_set_unit (inb := inb_S2x1024x1408_S1x1024x256_0_0_0)).2 fun a => ?_⟩
    have h0 : (j 0).val < 1 := (j 0).isLt
    have h1 : (j 1).val < 64 := (j 1).isLt
    have h2 : (j 2).val < 256 := (j 2).isLt
    have ho : o + 64 ≤ 1024 := inb 1
    fin_cases a
    · show 0 ≤ 0 + 1 * (j 0).val ∧ 0 + 1 * (j 0).val < 0 + 1; omega
    · show 0 ≤ o + 1 * (j 1).val ∧ o + 1 * (j 1).val < 0 + 1024; omega
    · show 0 ≤ 0 + 1 * (j 2).val ∧ 0 + 1 * (j 2).val < 0 + 256; omega

theorem ctx_pieces : ∀ p ∈ runCtx.sl.H8_16 i a3 a4 a7 X3 X4 hc2, ∀ x : p.1.shape.Idx, p.2 x = ctxP (a3.view.read (Elt Ideal) X3) (a4.view.read (Elt Ideal) X4) (p.1.emb x) := by
  unfold runCtx.sl.H8_16
  simp only [List.forall_mem_cons, List.not_mem_nil, false_imp_iff, implies_true, and_true]
  simp only [runCtx.sl.r_3, runCtx.sl.r_6, runCtx.sl.r_9, runCtx.sl.r_12, runCtx.sl.r_15, runCtx.sl.v50, runCtx.sl.v65, runCtx.sl.v80, runCtx.sl.v95, runCtx.sl.v110, runCtx.sl.v125,
    runCtx.sl.v140, runCtx.sl.v155, runCtx.sl.v170, runCtx.sl.v185, runCtx.sl.v200, runCtx.sl.v215, runCtx.sl.v230, runCtx.sl.v245, runCtx.sl.v260, runCtx.sl.v275, ↓ctx_load]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  all_goals
    idx_vars x
    pointwise [k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, ctxP, ctxS, ctxMax, emb_eq_norm]
    rfl

theorem ctx_p (R : Fin 1024) (j : Fin 256) : runCtx.sl.v299 i a3 a4 a7 a8 X3 X4 hc2 (ix3 0 R j)
    = Ideal.exp2 (sc (a3.view.read (Elt Ideal) X3) (a4.view.read (Elt Ideal) X4) R j - ctxMax (a3.view.read (Elt Ideal) X3) (a4.view.read (Elt Ideal) X4) R) := by
  unfold runCtx.sl.v299
  rw [readCov_of a8.view _ _ _ (ctx_pieces i a3 a4 a7 X3 X4 hc2) ?_]
  · pointwise [ctxP]
  · exact LoadRect.cover_of_covChk _ _ (rowsCov 15) (by sl_kernel_rfl)

/-- The end of the context step from the rows' maxima `v289`. -/
def ctxTail (v38 v289 : FVec Ideal S1024x1 .f32) (v39 : FVec Ideal S1024x256 .f32) (v295 : Vec Ideal S1x1x256x256 .bf16) (v299 : Vec Ideal S1x1024x256 .bf16) : FVec Ideal S1024x128 .f32 :=
  have v290 : FVec Ideal S1024x1 .f32 := subf v38 v289
  have v291 : FVec Ideal S1024x1 .f32 := exp2 v290
  have v296 : FVec Ideal S256x256 .bf16 := shapeCast S256x256 v295 shapeCasts_S1x1x256x256_S256x256
  have v297 : FVec Ideal S1024x256 .f32 := broadcastTo S1024x256 v291 broadcasts_S1024x1_S1024x256
  have v298 : FVec Ideal S1024x256 .f32 := mulf v297 v39
  have v300 : FVec Ideal S1024x256 .bf16 := shapeCast S1024x256 v299 shapeCasts_S1x1024x256_S1024x256
  have cst_181 : FVec Ideal S1024x256 .f32 := constant S1024x256 .f32 0x00000000#32
  have v301 : FVec Ideal S1024x256 .f32 := matmul dot_S1024x256_S256x256_S1024x256_1_0_0_1_n_n none v300 v296 cst_181
  have v302 : FVec Ideal S1024x256 .f32 := addf v298 v301
  have v303 : FVec Ideal S1024x128 .f32 := extractStridedSlice S1024x128 ![0, 0] v302 slices_S1024x256_o0_0_S1024x128
  have v304 : FVec Ideal S1024x128 .f32 := extractStridedSlice S1024x128 ![0, 128] v302 slices_S1024x256_o0_128_S1024x128
  have v305 : FVec Ideal S1024x128 .f32 := divf v303 v304
  v305

theorem ctxTail_at (C : FVec Ideal S1024x1 .f32) (v : Vec Ideal S1x1x256x256 .bf16) (p : Vec Ideal S1x1024x256 .bf16) (R : Fin 1024) (d : Fin 128) :
    ctxTail k0_pay3 C k0_pay4 v p (ix2 R d) = Ideal.div (∑ x : Fin 256, p (ix3 0 R x) * v (ix4 0 0 x ⟨d, by omega⟩)) (∑ x : Fin 256, p (ix3 0 R x) * v (ix4 0 0 x ⟨128 + d, by omega⟩)) := by
  have e : ∀ x y : EReal, x * 0 + y = y := fun x y => by rw [mul_zero, zero_add]
  pointwise [ctxTail, k0_pay4, k0_pay3]
  exact congrArg₂ Ideal.div (e _ _) (e _ _)

theorem ctx_fin (Q : S1x4x256x128.Idx → EReal) (K : S1x1x8448x128.Idx → EReal) (V : S1x1x8448x256.Idx → EReal)
    (hQ : ∀ x, IsR (Q x)) (hK : ∀ x, IsR (K x)) (hV : ∀ k (d : Fin 128), V (ix4 0 0 k ⟨128 + d, by omega⟩) = 1)
    (m1 m2 m3 m4 m5 m6 m7 m8 m9 m10 m11 m12 m13 m14 m15 : FVec Ideal S64x1 .f32) (s : Vec Ideal S1x64x256 .f32)
    (v : Vec Ideal S1x1x256x256 .bf16) (p : Vec Ideal S1x1024x256 .bf16)
    (hp : ∀ R j, p (ix3 0 R j) = Ideal.exp2 (sc Q K R j - ctxMax Q K R))
    (hv : ∀ (j d : Fin 256), v (ix4 0 0 j d) = vc V d j)
    (R : Fin 1024) (d : Fin 128) :
    k0_pay42 k0_pay3 k0_pay4 m1 m2 m3 m4 m5 m6 m7 m8 m9 m10 m11 m12 m13 m14 m15 s v p (ix2 R d) = avg 256 (sc Q K R) (vc V ⟨d, by omega⟩) := by
  have h : ∀ d : Fin 256, (∑ x : Fin 256, p (ix3 0 R x) * v (ix4 0 0 x d)) = acc 256 (sc Q K R) (ctxMax Q K R) (vc V d) := by
    intro d
    rw [acc, ← Fin.sum_univ_eq_sum_range (fun k => Ideal.exp2 (sc Q K R k - ctxMax Q K R) * vc V d k)]
    exact Finset.sum_congr rfl fun x _ => congrArg₂ (· * ·) (hp R x) (hv x d)
  refine (ctxTail_at _ v p R d).trans ?_
  refine (congrArg₂ Ideal.div (h _) (h _)).trans ?_
  exact div_acc 256 (by decide) _ (vc V ⟨d, by omega⟩) (vc V ⟨128 + d, by omega⟩) (ctxMax Q K R) (sc_isR hQ hK R) (ctxMax_isR hQ hK R) (fun k => hV _ d)

theorem ctx_out (f9 : BufTy.Contents (Elt Ideal) a9.view.ty) (hQ : ∀ x, IsR (a3.view.read (Elt Ideal) X3 x)) (hK : ∀ x, IsR (a4.view.read (Elt Ideal) X4 x))
    (hV : ∀ k (d : Fin 128), a5.view.read (Elt Ideal) X5 (ix4 0 0 k ⟨128 + d, by omega⟩) = 1) (f6 f7 f8) (y : S1x256x512.Idx) :
    a6.view.read (Elt Ideal) ((runCtx c i a3 h3 a4 h4 a5 h5 a6 h6 a7 h7 a8 h8 a9 h9 X3 X4 X5 f9 hc1 hc2).1 f6 f7 f8) y
      = outG 256 (a3.view.read (Elt Ideal) X3) (a4.view.read (Elt Ideal) X4) (a5.view.read (Elt Ideal) X5) y := by
  unfold runCtx
  dsimp only
  have key : ∀ (R : Fin 1024) (d : Fin 128), runCtx.sl.r_18 i a3 a4 a5 a7 a8 X3 X4 X5 hc2 (ix2 R d)
      = avg 256 (sc (a3.view.read (Elt Ideal) X3) (a4.view.read (Elt Ideal) X4) R) (vc (a5.view.read (Elt Ideal) X5) ⟨d, by omega⟩) := by
    intro R d
    refine ctx_fin _ _ _ hQ hK hV _ _ _ _ _ _ _ _ _ _ _ _ _ _ _ _ _ _ (fun R j => ctx_p i a3 a4 a7 a8 X3 X4 hc2 R j) (fun j d => ?_) R d
    have e2 : k0_off2 2 = 0 := by rw [k0_off2_eq]; rfl
    have e3 : k0_off2 3 = 0 := by rw [k0_off2_eq]; rfl
    pointwise [View.readAt_apply]
    exact v_at _ _ _ _ _ _ _ (by show k0_off2 2 + j.val = _; rw [e2]; omega) (by show k0_off2 3 + d.val = _; rw [e3]; omega)
  refine read_writes_of a6.view _ _ _ ?_ y (View.cover_of_tiledL _ ![1, 256, 128] (by sl_kernel_rfl) y)
  simp only [List.forall_mem_cons, List.not_mem_nil, false_imp_iff, implies_true, and_true]
  refine ⟨fun x => ?_, fun x => ?_, fun x => ?_, fun x => ?_⟩
  · idx_vars x
    pointwise [k0_pay240, emb_eq_norm]
    exact (key _ _).trans (outG_at _ _ _ _ 3 _ _ _ _ _ _ rfl rfl rfl)
  · idx_vars x
    pointwise [k0_pay239, emb_eq_norm]
    exact (key _ _).trans (outG_at _ _ _ _ 2 _ _ _ _ _ _ rfl rfl rfl)
  · idx_vars x
    pointwise [k0_pay238, emb_eq_norm]
    exact (key _ _).trans (outG_at _ _ _ _ 1 _ _ _ _ _ _ rfl rfl rfl)
  · idx_vars x
    pointwise [runCtx.sl.r_19, k0_pay43, emb_eq_norm]
    exact (key _ _).trans (outG_at _ _ _ _ 0 _ _ _ _ _ _ (by simp) (by simp) rfl)

/-- The root of the greatest sum of squares of reals is real. -/
theorem norm_isR {ι κ : Type} [Fintype ι] [Nonempty ι] (s : Finset κ) (f : ι → κ → EReal) (h : ∀ i j, IsR (f i j)) :
    IsR (Scalar.sqrt (F := Ideal) (φ := .f32) (Finset.fold max (Ideal.ofBits .f32 4286578688#32) (fun i => ∑ j ∈ s, f i j * f i j) Finset.univ)) := by
  choose g hg using h
  have e : ∀ i, ∑ j ∈ s, f i j * f i j = ((∑ j ∈ s, g i j * g i j : ℝ) : EReal) := fun i => by
    rw [coe_sum]
    exact Finset.sum_congr rfl fun j _ => by rw [hg, EReal.coe_mul]
  rw [ofBits_negInf]
  obtain ⟨r, hr⟩ := IsR.fold_max Finset.univ (fun i => ∑ j ∈ s, f i j * f i j) (fun i => ⟨_, e i⟩) Finset.univ_nonempty
  have h0 : (0 : EReal) ≤ (r : EReal) := by
    rw [← hr, Finset.le_fold_max]
    obtain ⟨i⟩ := ‹Nonempty ι›
    refine .inr ⟨i, Finset.mem_univ _, ?_⟩
    rw [e i]
    exact_mod_cast Finset.sum_nonneg fun j _ => mul_self_nonneg (g i j)
  rw [hr]
  show IsR (Ideal.sqrt (r : EReal))
  rw [Ideal.sqrt_coe, if_neg (not_lt.2 (by exact_mod_cast h0))]
  exact ⟨_, rfl⟩

/-- What the step leaves as the norms is real. -/
theorem ctx_norm (f9 : BufTy.Contents (Elt Ideal) a9.view.ty) (hK : ∀ x, IsR (a4.view.read (Elt Ideal) X4 x)) (f6 f7 f8) (y : S8x128.Idx) :
    IsR (a9.view.read (Elt Ideal) ((runCtx c i a3 h3 a4 h4 a5 h5 a6 h6 a7 h7 a8 h8 a9 h9 X3 X4 X5 f9 hc1 hc2).2.2.2.1 f6 f7 f8) y) := by
  unfold runCtx
  dsimp only
  rw [read_writes_of a9.view _ _ (fun y => k0_pay237 (View.readAt (Elt Ideal) a4.view (Rect.unit (s := S1x1x8448x128) ![0, 0, 0, 0] S1x1x8448x128.size inb_S1x1x8448x128_S1x1x8448x128_0_0_0_0).toLoadRect X4) y) ?_ y
    (View.cover_of_tiledL _ ![8, 128] (by sl_kernel_rfl) y)]
  · idx_vars y
    pointwise [k0_pay237]
    exact norm_isR _ _ fun _ _ => hK _
  · unfold runCtx.sl.H9_1
    simp only [List.forall_mem_cons, List.not_mem_nil, false_imp_iff, implies_true, and_true]
    intro x
    idx_vars x
    pointwise [emb_eq_norm]

end Cert.Proof

end
-- ==== Proof.ValTrip.lean ====
module

public import proofs.«01_k».proof.Proof.RunOnl
public import proofs.«01_k».proof.Proof.Reads

@[expose] public section

set_option maxRecDepth 16384

noncomputable section

namespace Cert.Proof

open Cert.KernelIdeal Cert.KernelIdeal.Gen
open Idealize.ShloMosaic Idealize.ShloMosaic.TcCoe Idealize.ShloMosaic.Tactic

/-- Sixteen blocks of 64 rows one under the other, each holding its rows of `M`. -/
theorem concat16 (M : Fin 1024 → EReal) (m0 m1 m2 m3 m4 m5 m6 m7 m8 m9 m10 m11 m12 m13 m14 m15 : FVec Ideal S64x1 .f32)
    (h0 : ∀ x : Fin 64, m0 (ix2 x 0) = M ⟨0 + x.val, by omega⟩)
    (h1 : ∀ x : Fin 64, m1 (ix2 x 0) = M ⟨64 + x.val, by omega⟩)
    (h2 : ∀ x : Fin 64, m2 (ix2 x 0) = M ⟨128 + x.val, by omega⟩)
    (h3 : ∀ x : Fin 64, m3 (ix2 x 0) = M ⟨192 + x.val, by omega⟩)
    (h4 : ∀ x : Fin 64, m4 (ix2 x 0) = M ⟨256 + x.val, by omega⟩)
    (h5 : ∀ x : Fin 64, m5 (ix2 x 0) = M ⟨320 + x.val, by omega⟩)
    (h6 : ∀ x : Fin 64, m6 (ix2 x 0) = M ⟨384 + x.val, by omega⟩)
    (h7 : ∀ x : Fin 64, m7 (ix2 x 0) = M ⟨448 + x.val, by omega⟩)
    (h8 : ∀ x : Fin 64, m8 (ix2 x 0) = M ⟨512 + x.val, by omega⟩)
    (h9 : ∀ x : Fin 64, m9 (ix2 x 0) = M ⟨576 + x.val, by omega⟩)
    (h10 : ∀ x : Fin 64, m10 (ix2 x 0) = M ⟨640 + x.val, by omega⟩)
    (h11 : ∀ x : Fin 64, m11 (ix2 x 0) = M ⟨704 + x.val, by omega⟩)
    (h12 : ∀ x : Fin 64, m12 (ix2 x 0) = M ⟨768 + x.val, by omega⟩)
    (h13 : ∀ x : Fin 64, m13 (ix2 x 0) = M ⟨832 + x.val, by omega⟩)
    (h14 : ∀ x : Fin 64, m14 (ix2 x 0) = M ⟨896 + x.val, by omega⟩)
    (h15 : ∀ x : Fin 64, m15 (ix2 x 0) = M ⟨960 + x.val, by omega⟩)
    (R : Fin 1024) :
    concatenate S1024x1 0 [⟨S64x1, m0⟩, ⟨S64x1, m1⟩, ⟨S64x1, m2⟩, ⟨S64x1, m3⟩, ⟨S64x1, m4⟩, ⟨S64x1, m5⟩, ⟨S64x1, m6⟩, ⟨S64x1, m7⟩, ⟨S64x1, m8⟩, ⟨S64x1, m9⟩,
      ⟨S64x1, m10⟩, ⟨S64x1, m11⟩, ⟨S64x1, m12⟩, ⟨S64x1, m13⟩, ⟨S64x1, m14⟩, ⟨S64x1, m15⟩]
      concatenates_S64x1_S64x1_S64x1_S64x1_S64x1_S64x1_S64x1_S64x1_S64x1_S64x1_S64x1_S64x1_S64x1_S64x1_S64x1_S64x1_S1024x1_d0 (ix2 R 0) = M R := by
  have hR : R.val / 64 < 16 := by omega
  have h : ∀ b : Fin 16, ∀ x : Fin 64, (![m0, m1, m2, m3, m4, m5, m6, m7, m8, m9, m10, m11, m12, m13, m14, m15] : Fin 16 → FVec Ideal S64x1 .f32) b (ix2 x 0)
      = M ⟨64 * b.val + x.val, by omega⟩ := by
    intro b x
    fin_cases b
    · exact h0 x
    · exact h1 x
    · exact h2 x
    · exact h3 x
    · exact h4 x
    · exact h5 x
    · exact h6 x
    · exact h7 x
    · exact h8 x
    · exact h9 x
    · exact h10 x
    · exact h11 x
    · exact h12 x
    · exact h13 x
    · exact h14 x
    · exact h15 x
  have hc := concatenate_ofFn_apply (t := S1024x1) (s₁ := S64x1) 0 (![m0, m1, m2, m3, m4, m5, m6, m7, m8, m9, m10, m11, m12, m13, m14, m15] : Fin 16 → FVec Ideal S64x1 .f32)
    concatenates_S64x1_S64x1_S64x1_S64x1_S64x1_S64x1_S64x1_S64x1_S64x1_S64x1_S64x1_S64x1_S64x1_S64x1_S64x1_S64x1_S1024x1_d0 rfl 64 rfl (ix2 R 0) ⟨R.val / 64, hR⟩ rfl
    (ix2 ⟨R.val % 64, by omega⟩ 0) rfl (fun b hb => by fin_cases b; exact absurd rfl hb; rfl)
  refine Eq.trans ?_ (hc.trans ((h _ _).trans (congrArg M (Fin.ext (by show 64 * (R.val / 64) + R.val % 64 = R.val; omega)))))
  rfl

/-- The rows' new maxima: the old ones `m`, and the scores of a tile of 1408 keys from `n` on. -/
def mx (Q : S1x4x256x128.Idx → EReal) (K : S1x1x8448x128.Idx → EReal) (n : ℕ) (m : FVec Ideal S1024x1 .f32) : FVec Ideal S1024x1 .f32 := fun x =>
  max (m (ix2 (x 0) 0)) (Finset.fold max (Ideal.ofBits .f32 4286578688#32) (fun j : Fin 1408 => sc Q K (x 0) (n + j)) Finset.univ)

theorem mx_isR {Q : S1x4x256x128.Idx → EReal} {K : S1x1x8448x128.Idx → EReal} (hQ : ∀ x, IsR (Q x)) (hK : ∀ x, IsR (K x)) (n : ℕ) (m : FVec Ideal S1024x1 .f32)
    (hm : ∀ R : Fin 1024, IsR (m (ix2 R 0)) ∨ m (ix2 R 0) = ⊥) (R : Fin 1024) : IsR (mx Q K n m (ix2 R 0)) := by
  show IsR (max (m (ix2 R 0)) (Finset.fold max (Ideal.ofBits .f32 4286578688#32) (fun j : Fin 1408 => sc Q K R (n + j)) Finset.univ))
  rw [ofBits_negInf]
  have h := IsR.fold_max Finset.univ (fun j : Fin 1408 => sc Q K R (n + j)) (fun _ => sc_isR hQ hK R _) Finset.univ_nonempty
  rcases hm R with h' | h'
  · exact h'.max h
  · rw [h']; exact h.bot_max

variable (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (Q : Vec Ideal S1x4x256x128 .bf16)
    (X4 : BufTy.Contents (Elt Ideal) a4.view.ty) (X5 : BufTy.Contents (Elt Ideal) a5.view.ty)

/-- The scores in the two slots: the first holds the tile from `n` on, the second the tile from `n'` on. -/
def onlS (Q : S1x4x256x128.Idx → EReal) (K : S1x1x8448x128.Idx → EReal) (n n' : ℕ) : S2x1024x1408.Idx → EReal := fun y =>
  sc Q K (y 1) ((if (y 0).val = 0 then n else n') + (y 2).val)

/-- The powers of two in the two slots, each from its own rows' bases. -/
def onlP (Q : S1x4x256x128.Idx → EReal) (K : S1x1x8448x128.Idx → EReal) (n n' : ℕ) (m m' : FVec Ideal S1024x1 .f32) : S2x1024x1408.Idx → EReal := fun y =>
  if (y 0).val = 0 then Ideal.exp2 (sc Q K (y 1) (n + (y 2).val) - m (ix2 (y 1) 0)) else Ideal.exp2 (sc Q K (y 1) (n' + (y 2).val) - m' (ix2 (y 1) 0))

theorem trip_scores (k : Fin k0_t2_loop.trips) :
    ∀ p ∈ trip_k0_t2.sl.HW_arg7_2 a4 (k0_pay142 Q) X4 k, ∀ x : p.1.shape.Idx,
      p.2 x = onlS Q (a4.view.read (Elt Ideal) X4) (2816 * k + 2816) (2816 * k + 4224) (p.1.emb x) := by
  have hk : (k : ℕ) < 2 := k.isLt
  unfold trip_k0_t2.sl.HW_arg7_2
  simp only [List.forall_mem_cons, List.not_mem_nil, false_imp_iff, implies_true, and_true]
  refine ⟨fun x => ?_, fun x => ?_⟩
  · have e : k0_off6 k 3#32 = ![0, 0, 2816 * k.val + 1408 * 1 + 2816, 0] := k0_off6_eq k 1
    have e2 : k0_off6 k 3#32 2 = 2816 * k.val + 4224 := by rw [e]; rfl
    have e3 : k0_off6 k 3#32 3 = 0 := by rw [e]; rfl
    idx_vars x
    pointwise [trip_k0_t2.sl.r_26, k0_pay103, k0_pay102, k0_pay142, View.readAt_apply, onlS, emb_eq_norm]
    refine Finset.sum_congr rfl fun d _ => congrArg (_ * ·) ?_
    exact k_at _ _ _ _ _ _ _ (by show k0_off6 k 3#32 2 + x2.val = _; rw [e2]) (by show k0_off6 k 3#32 3 + d.val = _; rw [e3]; omega)
  · have e : k0_off6 k 2#32 = ![0, 0, 2816 * k.val + 1408 * 0 + 2816, 0] := k0_off6_eq k 0
    have e2 : k0_off6 k 2#32 2 = 2816 * k.val + 2816 := by rw [e]; rfl
    have e3 : k0_off6 k 2#32 3 = 0 := by rw [e]; rfl
    idx_vars x
    pointwise [k0_pay59, k0_pay142, View.readAt_apply, onlS, emb_eq_norm]
    refine Finset.sum_congr rfl fun d _ => congrArg (_ * ·) ?_
    exact k_at _ _ _ _ _ _ _ (by show k0_off6 k 2#32 2 + x2.val = _; rw [e2]) (by show k0_off6 k 2#32 3 + d.val = _; rw [e3]; omega)

theorem trip_scores_cover (k : Fin k0_t2_loop.trips) (y : S2x1024x1408.Idx) :
    ∃ p ∈ trip_k0_t2.sl.HW_arg7_2 a4 (k0_pay142 Q) X4 k, y ∈ p.1.set := by
  unfold trip_k0_t2.sl.HW_arg7_2
  exact View.cover_of_tiledL _ ![1, 1024, 1408] (by sl_kernel_rfl) y

theorem trip_load0 (k : Fin k0_t2_loop.trips) (B : LoadRect S2x1024x1408) :
    View.readCov (Val := Elt Ideal) a7.view (trip_k0_t2.sl.HW_arg7_2 a4 (k0_pay142 Q) X4 k) B
      = fun j => onlS Q (a4.view.read (Elt Ideal) X4) (2816 * k + 2816) (2816 * k + 4224) (B.idx j) :=
  readCov_of a7.view _ _ _ (trip_scores a4 Q X4 k) fun j => trip_scores_cover a4 Q X4 k _

variable (k : Fin k0_t2_loop.trips) (f7 : BufTy.Contents (Elt Ideal) a7.view.ty)
    (hf7 : ∀ R j, a7.view.read (Elt Ideal) f7 (ix3 1 R j) = sc Q (a4.view.read (Elt Ideal) X4) R (2816 * k + 1408 + j.val))
    (t : FVec Ideal S1024x1 .f32 × FVec Ideal S1024x256 .f32 × FVec Ideal S1024x1 .f32)

include hf7 in
theorem trip_load1 (o : ℕ) (inb) :
    View.readAt (Elt Ideal) a7.view (Rect.unit (s := S2x1024x1408) ![1, o, 0] S1x64x1408.size inb).toLoadRect f7
      = fun j => onlS Q (a4.view.read (Elt Ideal) X4) 0 (2816 * k + 1408) ((Rect.unit (s := S2x1024x1408) ![1, o, 0] S1x64x1408.size inb).toLoadRect.idx j) := by
  have ho : o + 64 ≤ 1024 := inb 1
  funext j
  idx_vars j
  rw [View.readAt_apply, LoadRect.idx_eq_norm]
  pointwise [onlS]
  exact hf7 _ _

include hf7 in
/-- The maxima after the trip's first tile. -/
theorem trip_m1 : trip_k0_t2.sl.r_23 a7 t f7 = mx Q (a4.view.read (Elt Ideal) X4) (2816 * k + 1408) t.1 := by
  have L1 := trip_load1 a4 a7 Q X4 k f7 hf7
  funext x
  idx_vars x
  obtain rfl : x1 = 0 := Subsingleton.elim _ _
  unfold trip_k0_t2.sl.r_23 k0_pay99
  refine concat16 (fun R => mx Q (a4.view.read (Elt Ideal) X4) (2816 * k + 1408) t.1 (ix2 R 0)) _ _ _ _ _ _ _ _ _ _ _ _ _ _ _ _
    ?_ ?_ ?_ ?_ ?_ ?_ ?_ ?_ ?_ ?_ ?_ ?_ ?_ ?_ ?_ ?_ x0
  all_goals
    simp only [trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r, trip_k0_t2.sl.v591, trip_k0_t2.sl.v606, trip_k0_t2.sl.v621, trip_k0_t2.sl.v636, trip_k0_t2.sl.v651, trip_k0_t2.sl.v666, trip_k0_t2.sl.v681, trip_k0_t2.sl.v696, trip_k0_t2.sl.v711, trip_k0_t2.sl.v726, trip_k0_t2.sl.v741, trip_k0_t2.sl.v756, trip_k0_t2.sl.v771, trip_k0_t2.sl.v786, trip_k0_t2.sl.v801, trip_k0_t2.sl.v816, ↓L1]
    intro x
    pointwise [k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, onlS, mx]

include hf7 in
/-- The maxima after the trip's second tile. -/
theorem trip_m2 : trip_k0_t2.sl.v1096 a4 a7 (k0_pay142 Q) X4 k t f7
    = mx Q (a4.view.read (Elt Ideal) X4) (2816 * k + 2816) (mx Q (a4.view.read (Elt Ideal) X4) (2816 * k + 1408) t.1) := by
  have L0 := trip_load0 a4 a7 Q X4 k
  have e1 := trip_m1 a4 a7 Q X4 k f7 hf7 t
  funext x
  idx_vars x
  obtain rfl : x1 = 0 := Subsingleton.elim _ _
  unfold trip_k0_t2.sl.v1096
  refine concat16 (fun R => mx Q (a4.view.read (Elt Ideal) X4) (2816 * k + 2816) (mx Q (a4.view.read (Elt Ideal) X4) (2816 * k + 1408) t.1) (ix2 R 0)) _ _ _ _ _ _ _ _ _ _ _ _ _ _ _ _
    ?_ ?_ ?_ ?_ ?_ ?_ ?_ ?_ ?_ ?_ ?_ ?_ ?_ ?_ ?_ ?_ x0
  all_goals
    simp only [trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r, trip_k0_t2.sl.v857, trip_k0_t2.sl.v872, trip_k0_t2.sl.v887, trip_k0_t2.sl.v902, trip_k0_t2.sl.v917, trip_k0_t2.sl.v932, trip_k0_t2.sl.v947, trip_k0_t2.sl.v962, trip_k0_t2.sl.v977, trip_k0_t2.sl.v992, trip_k0_t2.sl.v1007, trip_k0_t2.sl.v1022, trip_k0_t2.sl.v1037, trip_k0_t2.sl.v1052, trip_k0_t2.sl.v1067, trip_k0_t2.sl.v1082, ↓L0, e1]
    generalize mx Q (a4.view.read (Elt Ideal) X4) (2816 * k + 1408) t.1 = m
    intro x
    pointwise [k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, onlS, mx]

include hf7 in
theorem trip_pieces :
    ∀ p ∈ trip_k0_t2.sl.HW_arg8_32 a4 a7 (k0_pay142 Q) X4 k t f7, ∀ x : p.1.shape.Idx,
      p.2 x = onlP Q (a4.view.read (Elt Ideal) X4) (2816 * k + 2816) (2816 * k + 1408)
        (mx Q (a4.view.read (Elt Ideal) X4) (2816 * k + 2816) (mx Q (a4.view.read (Elt Ideal) X4) (2816 * k + 1408) t.1))
        (mx Q (a4.view.read (Elt Ideal) X4) (2816 * k + 1408) t.1) (p.1.emb x) := by
  have L0 := trip_load0 a4 a7 Q X4 k
  have L1 := trip_load1 a4 a7 Q X4 k f7 hf7
  have e1 := trip_m1 a4 a7 Q X4 k f7 hf7 t
  unfold trip_k0_t2.sl.HW_arg8_32
  simp only [List.forall_mem_cons, List.not_mem_nil, false_imp_iff, implies_true, and_true]
  simp only [trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r, trip_k0_t2.sl.v857, trip_k0_t2.sl.v872, trip_k0_t2.sl.v887, trip_k0_t2.sl.v902, trip_k0_t2.sl.v917, trip_k0_t2.sl.v932, trip_k0_t2.sl.v947, trip_k0_t2.sl.v962, trip_k0_t2.sl.v977, trip_k0_t2.sl.v992, trip_k0_t2.sl.v1007, trip_k0_t2.sl.v1022, trip_k0_t2.sl.v1037, trip_k0_t2.sl.v1052, trip_k0_t2.sl.v1067, trip_k0_t2.sl.v1082, trip_k0_t2.sl.v591, trip_k0_t2.sl.v606, trip_k0_t2.sl.v621, trip_k0_t2.sl.v636, trip_k0_t2.sl.v651, trip_k0_t2.sl.v666, trip_k0_t2.sl.v681, trip_k0_t2.sl.v696, trip_k0_t2.sl.v711, trip_k0_t2.sl.v726, trip_k0_t2.sl.v741, trip_k0_t2.sl.v756, trip_k0_t2.sl.v771, trip_k0_t2.sl.v786, trip_k0_t2.sl.v801, trip_k0_t2.sl.v816, ↓L0, ↓L1, e1]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  all_goals
    idx_vars x
    pointwise [k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, onlP, onlS, mx, emb_eq_norm]
    rfl

theorem trip_cover (y : S2x1024x1408.Idx) :
    ∃ p ∈ trip_k0_t2.sl.HW_arg8_32 a4 a7 (k0_pay142 Q) X4 k t f7, y ∈ p.1.set := by
  unfold trip_k0_t2.sl.HW_arg8_32
  exact View.cover_of_tiledL _ ![1, 64, 1408] (by sl_kernel_rfl) y

variable (v38 : FVec Ideal S1024x1 .f32) (v39 : FVec Ideal S1024x256 .f32) (w1 w2 w3 w4 w5 w6 w7 w8 w9 w10 w11 w12 w13 w14 w15 : FVec Ideal S64x1 .f32) (w16 : FVec Ideal S64x1408 .f32)

/-- The running sums, in the state before trip `k`. -/
def OnlInv (Q : S1x4x256x128.Idx → EReal) (K : S1x1x8448x128.Idx → EReal) (V : S1x1x8448x256.Idx → EReal) (k : ℕ)
    (t : FVec Ideal S1024x1 .f32 × FVec Ideal S1024x256 .f32 × FVec Ideal S1024x1 .f32) : Prop :=
  ∀ R : Fin 1024, IsR (t.1 (ix2 R 0)) ∧ ∀ d : Fin 256, t.2.2 (ix2 R 0) * t.2.1 (ix2 R d) = acc (2816 * k) (sc Q K R) (t.1 (ix2 R 0)) (vc V d)

include hf7 in
/-- One trip adds two tiles to the running sums. -/
theorem onl_trip (hQ : ∀ x, IsR (Q x)) (hK : ∀ x, IsR (a4.view.read (Elt Ideal) X4 x)) (f8 : BufTy.Contents (Elt Ideal) a8.view.ty)
    (hf8 : ∀ R (j : Fin 1408), a8.view.read (Elt Ideal) f8 (ix3 0 R j) = Ideal.exp2 (sc Q (a4.view.read (Elt Ideal) X4) R (2816 * k + j.val) - t.1 (ix2 R 0)))
    (ht : OnlInv Q (a4.view.read (Elt Ideal) X4) (a5.view.read (Elt Ideal) X5) k t) :
    OnlInv Q (a4.view.read (Elt Ideal) X4) (a5.view.read (Elt Ideal) X5) (k + 1)
      (tripR_k0_t2 Variants.none c none i a3 h3 a4 h4 a5 h5 a6 h6 a7 h7 a8 h8 a9 h9 (k0_pay142 Q) v38 v39 w1 w2 w3 w4 w5 w6 w7 w8 w9 w10 w11 w12 w13 w14 w15 w16 X4 X5 k t f7 f8) := by
  have hk : (k : ℕ) < 2 := k.isLt
  have e7 := k0_off7_eq k
  have e72 : k0_off7 k 2 = 2816 * k.val := by rw [e7]; rfl
  have e73 : k0_off7 k 3 = 0 := by rw [e7]; rfl
  have e8 := k0_off8_eq k
  have e82 : k0_off8 k 2 = 2816 * k.val + 1408 := by rw [e8]; rfl
  have e83 : k0_off8 k 3 = 0 := by rw [e8]; rfl
  have e1 := trip_m1 a4 a7 Q X4 k f7 hf7 t
  have e2 := trip_m2 a4 a7 Q X4 k f7 hf7 t
  have e24 : trip_k0_t2.sl.r_24 a7 t f7 = k0_pay189 t.1 (trip_k0_t2.sl.r_23 a7 t f7) := rfl
  have e1108 : trip_k0_t2.sl.v1108 a4 a7 a8 (k0_pay142 Q) X4 k t f7 = _ :=
    readCov_of a8.view _ _ _ (trip_pieces a4 a7 Q X4 k f7 hf7 t) fun j => trip_cover a4 a7 Q X4 k f7 t _
  unfold tripR_k0_t2 trip_k0_t2
  dsimp only
  rw [e1108, e24, e2, e1]
  have r1 := mx_isR hQ hK (2816 * k + 1408) t.1 fun R => .inl (ht R).1
  generalize mx Q (a4.view.read (Elt Ideal) X4) (2816 * k + 1408) t.1 = m1 at r1 ⊢
  have r2 := mx_isR hQ hK (2816 * k + 2816) m1 fun R => .inl (r1 R)
  generalize mx Q (a4.view.read (Elt Ideal) X4) (2816 * k + 2816) m1 = m2 at r2 ⊢
  intro R
  refine ⟨r2 R, fun d => ?_⟩
  have s0 := sc_isR hQ hK R
  pointwise [k0_pay190, k0_pay189, trip_k0_t2.sl.r_25, k0_pay101, trip_k0_t2.sl.v841, View.readAt_apply, onlP]
  have e0 : Ideal.exp2 (m1 (ix2 R 0) - m2 (ix2 R 0)) * (Ideal.exp2 (t.1 (ix2 R 0) - m1 (ix2 R 0)) *
      (acc (2816 * k) (sc Q (a4.view.read (Elt Ideal) X4) R) (t.1 (ix2 R 0)) (vc (a5.view.read (Elt Ideal) X5) d)
        + ∑ x : Fin 1408, Ideal.exp2 (sc Q (a4.view.read (Elt Ideal) X4) R (2816 * k + x.val) - t.1 (ix2 R 0)) * vc (a5.view.read (Elt Ideal) X5) d (2816 * k + x.val))
      + ∑ x : Fin 1408, Ideal.exp2 (sc Q (a4.view.read (Elt Ideal) X4) R (2816 * k + 1408 + x.val) - m1 (ix2 R 0)) * vc (a5.view.read (Elt Ideal) X5) d (2816 * k + 1408 + x.val))
      = acc (2816 * ((k : ℕ) + 1)) (sc Q (a4.view.read (Elt Ideal) X4) R) (m2 (ix2 R 0)) (vc (a5.view.read (Elt Ideal) X5) d) := by
    rw [show 2816 * ((k : ℕ) + 1) = 2816 * k + 1408 + 1408 by omega, ← acc_rebase _ _ _ _ _ s0 (r1 R) (r2 R),
      ← acc_step (2816 * k + 1408) 1408 _ _ (t.1 (ix2 R 0)) _ s0 (.inl (ht R).1) (r1 R), acc_add]
  rw [← e0, ← (ht R).2 d]
  refine congrArg₂ (· * ·) rfl (congrArg₂ (· + ·) (congrArg₂ (· * ·) rfl (congrArg₂ (· + ·) rfl
    (Finset.sum_congr rfl fun x _ => congrArg₂ (· * ·) (hf8 R x) ?_))) (Finset.sum_congr rfl fun x _ => congrArg₂ (· * ·) rfl ?_))
  · exact v_at _ _ _ _ _ _ _ (by show k0_off7 k 2 + x.val = _; rw [e72]) (by show k0_off7 k 3 + d.val = _; rw [e73]; omega)
  · exact v_at _ _ _ _ _ _ _ (by show k0_off8 k 2 + x.val = _; rw [e82]) (by show k0_off8 k 3 + d.val = _; rw [e83]; omega)

/-- The state before trip `k`: the running sums, the next scores, the next powers of two. -/
theorem onl_state (hQ : ∀ x, IsR (Q x)) (hK : ∀ x, IsR (a4.view.read (Elt Ideal) X4 x))
    (G7 : BufTy.Contents (Elt Ideal) a7.view.ty) (G8 : BufTy.Contents (Elt Ideal) a8.view.ty)
    (hG7 : ∀ R (j : Fin 1408), a7.view.read (Elt Ideal) G7 (ix3 1 R j) = sc Q (a4.view.read (Elt Ideal) X4) R (1408 + j.val))
    (init : FVec Ideal S1024x1 .f32 × FVec Ideal S1024x256 .f32 × FVec Ideal S1024x1 .f32)
    (hG8 : ∀ R (j : Fin 1408), a8.view.read (Elt Ideal) G8 (ix3 0 R j) = Ideal.exp2 (sc Q (a4.view.read (Elt Ideal) X4) R j.val - init.1 (ix2 R 0)))
    (hi : OnlInv Q (a4.view.read (Elt Ideal) X4) (a5.view.read (Elt Ideal) X5) 0 init) : ∀ k : ℕ, k ≤ k0_t2_loop.trips →
    OnlInv Q (a4.view.read (Elt Ideal) X4) (a5.view.read (Elt Ideal) X5) k
      (st_k0_t2 Variants.none c none i a3 h3 a4 h4 a5 h5 a6 h6 a7 h7 a8 h8 a9 h9 (k0_pay142 Q) v38 v39 w1 w2 w3 w4 w5 w6 w7 w8 w9 w10 w11 w12 w13 w14 w15 w16 X4 X5 G7 G8 init k).1 ∧
    (∀ f, (k = 0 → f = G7) → ∀ R (j : Fin 1408), a7.view.read (Elt Ideal) (a7.view.writes (Elt Ideal) f
      (st_k0_t2 Variants.none c none i a3 h3 a4 h4 a5 h5 a6 h6 a7 h7 a8 h8 a9 h9 (k0_pay142 Q) v38 v39 w1 w2 w3 w4 w5 w6 w7 w8 w9 w10 w11 w12 w13 w14 w15 w16 X4 X5 G7 G8 init k).2.1) (ix3 1 R j)
      = sc Q (a4.view.read (Elt Ideal) X4) R (2816 * k + 1408 + j.val)) ∧
    (∀ f, (k = 0 → f = G8) → ∀ R (j : Fin 1408), a8.view.read (Elt Ideal) (a8.view.writes (Elt Ideal) f
      (st_k0_t2 Variants.none c none i a3 h3 a4 h4 a5 h5 a6 h6 a7 h7 a8 h8 a9 h9 (k0_pay142 Q) v38 v39 w1 w2 w3 w4 w5 w6 w7 w8 w9 w10 w11 w12 w13 w14 w15 w16 X4 X5 G7 G8 init k).2.2) (ix3 0 R j)
      = Ideal.exp2 (sc Q (a4.view.read (Elt Ideal) X4) R (2816 * k + j.val) -
        (st_k0_t2 Variants.none c none i a3 h3 a4 h4 a5 h5 a6 h6 a7 h7 a8 h8 a9 h9 (k0_pay142 Q) v38 v39 w1 w2 w3 w4 w5 w6 w7 w8 w9 w10 w11 w12 w13 w14 w15 w16 X4 X5 G7 G8 init k).1.1 (ix2 R 0)))
  | 0, _ => by
    refine ⟨?_, fun f hff R j => ?_, fun f hff R j => ?_⟩
    · rw [st_k0_t2_zero]; exact hi
    · rw [hff rfl, Nat.mul_zero, Nat.zero_add]; exact hG7 R j
    · rw [hff rfl, Nat.mul_zero, Nat.zero_add, st_k0_t2_zero]; exact hG8 R j
  | k + 1, hk => by
    obtain ⟨h1, h2, h3'⟩ := onl_state hQ hK G7 G8 hG7 init hG8 hi k (Nat.le_of_succ_le hk)
    have e := st_k0_t2_succ Variants.none c none i a3 h3 a4 h4 a5 h5 a6 h6 a7 h7 a8 h8 a9 h9 (k0_pay142 Q) v38 v39 w1 w2 w3 w4 w5 w6 w7 w8 w9 w10 w11 w12 w13 w14 w15 w16 X4 X5 G7 G8 init ⟨k, hk⟩
    simp only at e
    rw [e]
    generalize st_k0_t2 Variants.none c none i a3 h3 a4 h4 a5 h5 a6 h6 a7 h7 a8 h8 a9 h9 (k0_pay142 Q) v38 v39 w1 w2 w3 w4 w5 w6 w7 w8 w9 w10 w11 w12 w13 w14 w15 w16 X4 X5 G7 G8 init k = S at h1 h2 h3' ⊢
    have g7 := h2 G7 fun _ => rfl
    have g8 := h3' G8 fun _ => rfl
    refine ⟨?_, fun f _ R j => ?_, fun f _ R j => ?_⟩
    · exact onl_trip c i a3 h3 a4 h4 a5 h5 a6 h6 a7 h7 a8 h8 a9 h9 Q X4 X5 ⟨k, hk⟩ _ g7 S.1 v38 v39 w1 w2 w3 w4 w5 w6 w7 w8 w9 w10 w11 w12 w13 w14 w15 w16 hQ hK _ g8 h1
    · rw [View.writes_append]
      unfold trip_k0_t2
      dsimp only
      rw [read_writes_of a7.view _ _ _ (trip_scores a4 Q X4 ⟨k, hk⟩) _ (trip_scores_cover a4 Q X4 ⟨k, hk⟩ _)]
      show sc Q _ R (2816 * k + 4224 + j.val) = _
      congr 1
    · rw [View.writes_append]
      unfold tripR_k0_t2 trip_k0_t2
      dsimp only
      rw [read_writes_of a8.view _ _ _ (trip_pieces a4 a7 Q X4 ⟨k, hk⟩ _ g7 S.1) _ (trip_cover a4 a7 Q X4 ⟨k, hk⟩ _ S.1 _),
        trip_m2 a4 a7 Q X4 ⟨k, hk⟩ _ g7 S.1]
      rfl

end Cert.Proof

end
-- ==== Proof.ValOnl.lean ====
module

public import proofs.«01_k».proof.Proof.ValTrip

@[expose] public section

set_option maxRecDepth 16384

noncomputable section

namespace Cert.Proof

open Cert.KernelIdeal Cert.KernelIdeal.Gen
open Idealize.ShloMosaic Idealize.ShloMosaic.TcCoe Idealize.ShloMosaic.Tactic

variable (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (X3 : BufTy.Contents (Elt Ideal) a3.view.ty)
    (X4 : BufTy.Contents (Elt Ideal) a4.view.ty) (X5 : BufTy.Contents (Elt Ideal) a5.view.ty)

/-- The scores before the loop: the first two tiles. -/
theorem init_scores : ∀ p ∈ runOnl.sl.H7_2 a3 a4 X3 X4, ∀ x : p.1.shape.Idx,
    p.2 x = onlS (a3.view.read (Elt Ideal) X3) (a4.view.read (Elt Ideal) X4) 0 1408 (p.1.emb x) := by
  unfold runOnl.sl.H7_2
  simp only [List.forall_mem_cons, List.not_mem_nil, false_imp_iff, implies_true, and_true]
  refine ⟨fun x => ?_, fun x => ?_⟩
  · idx_vars x
    pointwise [k0_pay146, k0_pay142, View.readAt_apply, onlS, emb_eq_norm]
    refine Finset.sum_congr rfl fun d _ => congrArg (_ * ·) ?_
    exact k_at _ _ _ _ _ _ _ (by simp) (by simp)
  · idx_vars x
    pointwise [k0_pay145, k0_pay142, View.readAt_apply, onlS, emb_eq_norm]
    refine Finset.sum_congr rfl fun d _ => congrArg (_ * ·) ?_
    exact k_at _ _ _ _ _ _ _ (by simp) (by simp)

theorem init_scores_cover (y : S2x1024x1408.Idx) : ∃ p ∈ runOnl.sl.H7_2 a3 a4 X3 X4, y ∈ p.1.set := by
  unfold runOnl.sl.H7_2
  exact View.cover_of_tiledL _ ![1, 1024, 1408] (by sl_kernel_rfl) y

theorem init_load (B : LoadRect S2x1024x1408) : View.readCov (Val := Elt Ideal) a7.view (runOnl.sl.H7_2 a3 a4 X3 X4) B
    = fun j => onlS (a3.view.read (Elt Ideal) X3) (a4.view.read (Elt Ideal) X4) 0 1408 (B.idx j) :=
  readCov_of a7.view _ _ _ (init_scores a3 a4 X3 X4) fun j => init_scores_cover a3 a4 X3 X4 _

/-- The powers of two stored before the loop. -/
def onlInit : List (View.Piece (Elt Ideal) S2x1024x1408 .bf16) :=
  [⟨Rect.unit (s := S2x1024x1408) ![0, 960, 0] S1x64x1408.size inb_S2x1024x1408_S1x64x1408_0_960_0,
            k0_pay186 k0_pay143 (runOnl.sl.v278 a3 a4 a7 X3 X4) (runOnl.sl.v278 a3 a4 a7 X3 X4)⟩,
          ⟨Rect.unit (s := S2x1024x1408) ![0, 896, 0] S1x64x1408.size inb_S2x1024x1408_S1x64x1408_0_896_0,
            k0_pay184 (runOnl.sl.r_23 a3 a4 a7 X3 X4) (runOnl.sl.r_24 a3 a4 a7 X3 X4)⟩,
          ⟨Rect.unit (s := S2x1024x1408) ![0, 832, 0] S1x64x1408.size inb_S2x1024x1408_S1x64x1408_0_832_0,
            k0_pay181 k0_pay143 (runOnl.sl.v248 a3 a4 a7 X3 X4) (runOnl.sl.v248 a3 a4 a7 X3 X4)⟩,
          ⟨Rect.unit (s := S2x1024x1408) ![0, 768, 0] S1x64x1408.size inb_S2x1024x1408_S1x64x1408_0_768_0,
            k0_pay179 runOnl.sl.r_19 (runOnl.sl.r_20 a3 a4 a7 X3 X4) (runOnl.sl.v233 a3 a4 a7 X3 X4)⟩,
          ⟨Rect.unit (s := S2x1024x1408) ![0, 704, 0] S1x64x1408.size inb_S2x1024x1408_S1x64x1408_0_704_0,
            k0_pay175 k0_pay143 (runOnl.sl.v218 a3 a4 a7 X3 X4) (runOnl.sl.v218 a3 a4 a7 X3 X4)⟩,
          ⟨Rect.unit (s := S2x1024x1408) ![0, 640, 0] S1x64x1408.size inb_S2x1024x1408_S1x64x1408_0_640_0,
            k0_pay173 k0_pay143 (runOnl.sl.v203 a3 a4 a7 X3 X4) (runOnl.sl.v203 a3 a4 a7 X3 X4)⟩,
          ⟨Rect.unit (s := S2x1024x1408) ![0, 576, 0] S1x64x1408.size inb_S2x1024x1408_S1x64x1408_0_576_0, runOnl.sl.r_16 a3 a4 a7 X3 X4⟩,
          ⟨Rect.unit (s := S2x1024x1408) ![0, 512, 0] S1x64x1408.size inb_S2x1024x1408_S1x64x1408_0_512_0,
            k0_pay169 k0_pay143 (runOnl.sl.v173 a3 a4 a7 X3 X4) (runOnl.sl.v173 a3 a4 a7 X3 X4)⟩,
          ⟨Rect.unit (s := S2x1024x1408) ![0, 448, 0] S1x64x1408.size inb_S2x1024x1408_S1x64x1408_0_448_0,
            k0_pay167 (runOnl.sl.r_13 a3 a4 a7 X3 X4)⟩,
          ⟨Rect.unit (s := S2x1024x1408) ![0, 384, 0] S1x64x1408.size inb_S2x1024x1408_S1x64x1408_0_384_0,
            k0_pay164 k0_pay143 (runOnl.sl.v143 a3 a4 a7 X3 X4) (runOnl.sl.v143 a3 a4 a7 X3 X4)⟩,
          ⟨Rect.unit (s := S2x1024x1408) ![0, 320, 0] S1x64x1408.size inb_S2x1024x1408_S1x64x1408_0_320_0,
            k0_pay162 runOnl.sl.r_8 (runOnl.sl.r_9 a3 a4 a7 X3 X4) (runOnl.sl.v128 a3 a4 a7 X3 X4)⟩,
          ⟨Rect.unit (s := S2x1024x1408) ![0, 256, 0] S1x64x1408.size inb_S2x1024x1408_S1x64x1408_0_256_0,
            k0_pay158 k0_pay143 (runOnl.sl.v113 a3 a4 a7 X3 X4) (runOnl.sl.v113 a3 a4 a7 X3 X4)⟩,
          ⟨Rect.unit (s := S2x1024x1408) ![0, 192, 0] S1x64x1408.size inb_S2x1024x1408_S1x64x1408_0_192_0,
            k0_pay156 runOnl.sl.r_5 (runOnl.sl.v98 a3 a4 a7 X3 X4) (runOnl.sl.v98 a3 a4 a7 X3 X4)⟩,
          ⟨Rect.unit (s := S2x1024x1408) ![0, 128, 0] S1x64x1408.size inb_S2x1024x1408_S1x64x1408_0_128_0,
            k0_pay153 k0_pay143 (runOnl.sl.v83 a3 a4 a7 X3 X4) (runOnl.sl.v83 a3 a4 a7 X3 X4)⟩,
          ⟨Rect.unit (s := S2x1024x1408) ![0, 64, 0] S1x64x1408.size inb_S2x1024x1408_S1x64x1408_0_64_0,
            k0_pay151 k0_pay143 (runOnl.sl.v68 a3 a4 a7 X3 X4) (runOnl.sl.v68 a3 a4 a7 X3 X4)⟩,
          ⟨Rect.unit (s := S2x1024x1408) ![0, 0, 0] S1x64x1408.size inb_S2x1024x1408_S1x64x1408_0_0_0,
            k0_pay149 (runOnl.sl.r_2 a3 a4 a7 X3 X4)⟩]

/-- The maxima before the loop: those of the first tile. -/
theorem init_m : k0_pay187 k0_pay143 (runOnl.sl.r_1 a3 a4 a7 X3 X4) (runOnl.sl.r_3 a3 a4 a7 X3 X4) (runOnl.sl.r_4 a3 a4 a7 X3 X4)
          (runOnl.sl.r_6 a3 a4 a7 X3 X4) (runOnl.sl.r_7 a3 a4 a7 X3 X4) (runOnl.sl.r_10 a3 a4 a7 X3 X4)
          (runOnl.sl.r_11 a3 a4 a7 X3 X4) (runOnl.sl.r_12 a3 a4 a7 X3 X4) (runOnl.sl.r_14 a3 a4 a7 X3 X4)
          (runOnl.sl.r_15 a3 a4 a7 X3 X4) (runOnl.sl.r_17 a3 a4 a7 X3 X4) (runOnl.sl.r_18 a3 a4 a7 X3 X4)
          (runOnl.sl.r_21 a3 a4 a7 X3 X4) (runOnl.sl.r_22 a3 a4 a7 X3 X4) (runOnl.sl.r_23 a3 a4 a7 X3 X4)
          (runOnl.sl.v278 a3 a4 a7 X3 X4) = mx (a3.view.read (Elt Ideal) X3) (a4.view.read (Elt Ideal) X4) 0 k0_pay143 := by
  have L := init_load a3 a4 a7 X3 X4
  funext x
  idx_vars x
  obtain rfl : x1 = 0 := Subsingleton.elim _ _
  unfold k0_pay187
  refine concat16 (fun R => mx (a3.view.read (Elt Ideal) X3) (a4.view.read (Elt Ideal) X4) 0 k0_pay143 (ix2 R 0)) _ _ _ _ _ _ _ _ _ _ _ _ _ _ _ _
    ?_ ?_ ?_ ?_ ?_ ?_ ?_ ?_ ?_ ?_ ?_ ?_ ?_ ?_ ?_ ?_ x0
  all_goals
    simp only [runOnl.sl.r_1, runOnl.sl.r_2, runOnl.sl.r_3, runOnl.sl.r_4, runOnl.sl.r_5, runOnl.sl.r_6, runOnl.sl.r_7, runOnl.sl.r_8, runOnl.sl.r_9, runOnl.sl.r_10, runOnl.sl.r_11, runOnl.sl.r_12, runOnl.sl.r_13, runOnl.sl.r_14, runOnl.sl.r_15, runOnl.sl.r_16, runOnl.sl.r_17, runOnl.sl.r_18, runOnl.sl.r_19, runOnl.sl.r_20, runOnl.sl.r_21, runOnl.sl.r_22, runOnl.sl.r_23, runOnl.sl.r_24, runOnl.sl.v53, runOnl.sl.v68, runOnl.sl.v83, runOnl.sl.v98, runOnl.sl.v113, runOnl.sl.v128, runOnl.sl.v143, runOnl.sl.v158, runOnl.sl.v173, runOnl.sl.v188, runOnl.sl.v203, runOnl.sl.v218, runOnl.sl.v233, runOnl.sl.v248, runOnl.sl.v263, runOnl.sl.v278, ↓L]
    intro x
    pointwise [k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, onlS, mx]

theorem init_pieces : ∀ p ∈ onlInit a3 a4 a7 X3 X4, ∀ x : p.1.shape.Idx,
    p.2 x = onlP (a3.view.read (Elt Ideal) X3) (a4.view.read (Elt Ideal) X4) 0 0 (mx (a3.view.read (Elt Ideal) X3) (a4.view.read (Elt Ideal) X4) 0 k0_pay143)
      (mx (a3.view.read (Elt Ideal) X3) (a4.view.read (Elt Ideal) X4) 0 k0_pay143) (p.1.emb x) := by
  have L := init_load a3 a4 a7 X3 X4
  unfold onlInit
  simp only [List.forall_mem_cons, List.not_mem_nil, false_imp_iff, implies_true, and_true]
  simp only [runOnl.sl.r_1, runOnl.sl.r_2, runOnl.sl.r_3, runOnl.sl.r_4, runOnl.sl.r_5, runOnl.sl.r_6, runOnl.sl.r_7, runOnl.sl.r_8, runOnl.sl.r_9, runOnl.sl.r_10, runOnl.sl.r_11, runOnl.sl.r_12, runOnl.sl.r_13, runOnl.sl.r_14, runOnl.sl.r_15, runOnl.sl.r_16, runOnl.sl.r_17, runOnl.sl.r_18, runOnl.sl.r_19, runOnl.sl.r_20, runOnl.sl.r_21, runOnl.sl.r_22, runOnl.sl.r_23, runOnl.sl.r_24, runOnl.sl.v53, runOnl.sl.v68, runOnl.sl.v83, runOnl.sl.v98, runOnl.sl.v113, runOnl.sl.v128, runOnl.sl.v143, runOnl.sl.v158, runOnl.sl.v173, runOnl.sl.v188, runOnl.sl.v203, runOnl.sl.v218, runOnl.sl.v233, runOnl.sl.v248, runOnl.sl.v263, runOnl.sl.v278, ↓L]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  all_goals
    idx_vars x
    pointwise [k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, onlP, onlS, mx, emb_eq_norm]
    rfl

variable (f8 : BufTy.Contents (Elt Ideal) a8.view.ty)

/-- The state after the loop. -/
def onlSt : (FVec Ideal S1024x1 .f32 × FVec Ideal S1024x256 .f32 × FVec Ideal S1024x1 .f32) × List (View.Piece (Elt Ideal) S2x1024x1408 .f32) × List (View.Piece (Elt Ideal) S2x1024x1408 .bf16) :=
  (st_k0_t2 Variants.none c none i a3 h3 a4 h4 a5 h5 a6 h6 a7 h7 a8 h8 a9 h9 (runOnl.sl.r a3 X3) k0_pay143 k0_pay144
      (runOnl.sl.r_1 a3 a4 a7 X3 X4) (runOnl.sl.r_3 a3 a4 a7 X3 X4) (runOnl.sl.r_4 a3 a4 a7 X3 X4)
      (runOnl.sl.r_6 a3 a4 a7 X3 X4) (runOnl.sl.r_7 a3 a4 a7 X3 X4) (runOnl.sl.r_10 a3 a4 a7 X3 X4)
      (runOnl.sl.r_11 a3 a4 a7 X3 X4) (runOnl.sl.r_12 a3 a4 a7 X3 X4) (runOnl.sl.r_14 a3 a4 a7 X3 X4)
      (runOnl.sl.r_15 a3 a4 a7 X3 X4) (runOnl.sl.r_17 a3 a4 a7 X3 X4) (runOnl.sl.r_18 a3 a4 a7 X3 X4)
      (runOnl.sl.r_21 a3 a4 a7 X3 X4) (runOnl.sl.r_22 a3 a4 a7 X3 X4) (runOnl.sl.r_23 a3 a4 a7 X3 X4)
      (runOnl.sl.r_24 a3 a4 a7 X3 X4) X4 X5 (a7.view.writes (Elt Ideal) (a7.view.junk (Val := Elt Ideal)) (runOnl.sl.H7_2 a3 a4 X3 X4))
      (a8.view.writes (Elt Ideal) f8
        (onlInit a3 a4 a7 X3 X4))
      (k0_pay187 k0_pay143 (runOnl.sl.r_1 a3 a4 a7 X3 X4) (runOnl.sl.r_3 a3 a4 a7 X3 X4) (runOnl.sl.r_4 a3 a4 a7 X3 X4)
          (runOnl.sl.r_6 a3 a4 a7 X3 X4) (runOnl.sl.r_7 a3 a4 a7 X3 X4) (runOnl.sl.r_10 a3 a4 a7 X3 X4)
          (runOnl.sl.r_11 a3 a4 a7 X3 X4) (runOnl.sl.r_12 a3 a4 a7 X3 X4) (runOnl.sl.r_14 a3 a4 a7 X3 X4)
          (runOnl.sl.r_15 a3 a4 a7 X3 X4) (runOnl.sl.r_17 a3 a4 a7 X3 X4) (runOnl.sl.r_18 a3 a4 a7 X3 X4)
          (runOnl.sl.r_21 a3 a4 a7 X3 X4) (runOnl.sl.r_22 a3 a4 a7 X3 X4) (runOnl.sl.r_23 a3 a4 a7 X3 X4)
          (runOnl.sl.v278 a3 a4 a7 X3 X4),
        k0_pay144,
        k0_pay188 k0_pay143 (runOnl.sl.r_1 a3 a4 a7 X3 X4) (runOnl.sl.r_3 a3 a4 a7 X3 X4) (runOnl.sl.r_4 a3 a4 a7 X3 X4)
          (runOnl.sl.r_6 a3 a4 a7 X3 X4) (runOnl.sl.r_7 a3 a4 a7 X3 X4) (runOnl.sl.r_10 a3 a4 a7 X3 X4)
          (runOnl.sl.r_11 a3 a4 a7 X3 X4) (runOnl.sl.r_12 a3 a4 a7 X3 X4) (runOnl.sl.r_14 a3 a4 a7 X3 X4)
          (runOnl.sl.r_15 a3 a4 a7 X3 X4) (runOnl.sl.r_17 a3 a4 a7 X3 X4) (runOnl.sl.r_18 a3 a4 a7 X3 X4)
          (runOnl.sl.r_21 a3 a4 a7 X3 X4) (runOnl.sl.r_22 a3 a4 a7 X3 X4) (runOnl.sl.r_23 a3 a4 a7 X3 X4)
          (runOnl.sl.v278 a3 a4 a7 X3 X4))
      (Scf.trips k0_t2_loop.lb k0_t2_loop.ub k0_t2_loop.st))

theorem trips2 : Scf.trips k0_t2_loop.lb k0_t2_loop.ub k0_t2_loop.st = 2 := by decide +kernel

theorem onlSt_inv (hQ : ∀ x, IsR (a3.view.read (Elt Ideal) X3 x)) (hK : ∀ x, IsR (a4.view.read (Elt Ideal) X4 x)) :
    OnlInv (a3.view.read (Elt Ideal) X3) (a4.view.read (Elt Ideal) X4) (a5.view.read (Elt Ideal) X5) 2 (onlSt c i a3 h3 a4 h4 a5 h5 a6 h6 a7 h7 a8 h8 a9 h9 X3 X4 X5 f8).1 ∧
    (∀ f R (j : Fin 1408), a7.view.read (Elt Ideal) (a7.view.writes (Elt Ideal) f (onlSt c i a3 h3 a4 h4 a5 h5 a6 h6 a7 h7 a8 h8 a9 h9 X3 X4 X5 f8).2.1) (ix3 1 R j)
      = sc (a3.view.read (Elt Ideal) X3) (a4.view.read (Elt Ideal) X4) R (7040 + j.val)) ∧
    (∀ f R (j : Fin 1408), a8.view.read (Elt Ideal) (a8.view.writes (Elt Ideal) f (onlSt c i a3 h3 a4 h4 a5 h5 a6 h6 a7 h7 a8 h8 a9 h9 X3 X4 X5 f8).2.2) (ix3 0 R j)
      = Ideal.exp2 (sc (a3.view.read (Elt Ideal) X3) (a4.view.read (Elt Ideal) X4) R (5632 + j.val) - (onlSt c i a3 h3 a4 h4 a5 h5 a6 h6 a7 h7 a8 h8 a9 h9 X3 X4 X5 f8).1.1 (ix2 R 0))) := by
  have eq : runOnl.sl.r a3 X3 = k0_pay142 (a3.view.read (Elt Ideal) X3) := congrArg k0_pay142 (readAt_q a3 X3 _)
  have em := init_m a3 a4 a7 X3 X4
  unfold onlSt
  rw [eq, trips2, em]
  have rm := mx_isR hQ hK 0 k0_pay143 fun R => .inr (by pointwise [k0_pay143]; exact ofBits_negInf)
  have hcov : ∀ (R : Fin 1024) (j : Fin 1408), ∃ p ∈ onlInit a3 a4 a7 X3 X4, (ix3 0 R j : S2x1024x1408.Idx) ∈ p.1.set := by
    intro R j
    have hc : ∀ j : S1x1024x1408.Idx, ∃ p ∈ onlInit a3 a4 a7 X3 X4, (Rect.unit (s := S2x1024x1408) ![0, 0, 0] S1x1024x1408.size inb_S2x1024x1408_S1x1024x1408_0_0_0).toLoadRect.idx j ∈ p.1.set :=
      LoadRect.cover_of_covChk (onlInit a3 a4 a7 X3 X4) (Rect.unit (s := S2x1024x1408) ![0, 0, 0] S1x1024x1408.size inb_S2x1024x1408_S1x1024x1408_0_0_0).toLoadRect (rowsCov 15) (by unfold onlInit; sl_kernel_rfl)
    have h := hc (ix3 0 R j)
    rw [LoadRect.idx_eq_norm] at h
    revert h
    pointwise
    exact id

  have st := onl_state c i a3 h3 a4 h4 a5 h5 a6 h6 a7 h7 a8 h8 a9 h9 (a3.view.read (Elt Ideal) X3) X4 X5 k0_pay143 k0_pay144
    (runOnl.sl.r_1 a3 a4 a7 X3 X4) (runOnl.sl.r_3 a3 a4 a7 X3 X4) (runOnl.sl.r_4 a3 a4 a7 X3 X4) (runOnl.sl.r_6 a3 a4 a7 X3 X4) (runOnl.sl.r_7 a3 a4 a7 X3 X4) (runOnl.sl.r_10 a3 a4 a7 X3 X4) (runOnl.sl.r_11 a3 a4 a7 X3 X4) (runOnl.sl.r_12 a3 a4 a7 X3 X4) (runOnl.sl.r_14 a3 a4 a7 X3 X4) (runOnl.sl.r_15 a3 a4 a7 X3 X4) (runOnl.sl.r_17 a3 a4 a7 X3 X4) (runOnl.sl.r_18 a3 a4 a7 X3 X4) (runOnl.sl.r_21 a3 a4 a7 X3 X4) (runOnl.sl.r_22 a3 a4 a7 X3 X4) (runOnl.sl.r_23 a3 a4 a7 X3 X4) (runOnl.sl.r_24 a3 a4 a7 X3 X4) hQ hK
    (a7.view.writes (Elt Ideal) (a7.view.junk (Val := Elt Ideal)) (runOnl.sl.H7_2 a3 a4 X3 X4)) (a8.view.writes (Elt Ideal) f8 (onlInit a3 a4 a7 X3 X4))
    (fun R j => read_writes_of a7.view _ _ _ (init_scores a3 a4 X3 X4) _ (init_scores_cover a3 a4 X3 X4 _))
    (mx (a3.view.read (Elt Ideal) X3) (a4.view.read (Elt Ideal) X4) 0 k0_pay143, k0_pay144,
      k0_pay188 k0_pay143 (runOnl.sl.r_1 a3 a4 a7 X3 X4) (runOnl.sl.r_3 a3 a4 a7 X3 X4) (runOnl.sl.r_4 a3 a4 a7 X3 X4) (runOnl.sl.r_6 a3 a4 a7 X3 X4) (runOnl.sl.r_7 a3 a4 a7 X3 X4) (runOnl.sl.r_10 a3 a4 a7 X3 X4) (runOnl.sl.r_11 a3 a4 a7 X3 X4) (runOnl.sl.r_12 a3 a4 a7 X3 X4) (runOnl.sl.r_14 a3 a4 a7 X3 X4) (runOnl.sl.r_15 a3 a4 a7 X3 X4) (runOnl.sl.r_17 a3 a4 a7 X3 X4) (runOnl.sl.r_18 a3 a4 a7 X3 X4) (runOnl.sl.r_21 a3 a4 a7 X3 X4) (runOnl.sl.r_22 a3 a4 a7 X3 X4) (runOnl.sl.r_23 a3 a4 a7 X3 X4) (runOnl.sl.v278 a3 a4 a7 X3 X4))
    (fun R j => (read_writes_of a8.view _ _ _ (init_pieces a3 a4 a7 X3 X4) _ (hcov R j)).trans
      (by show Ideal.exp2 (sc _ _ R (0 + j.val) - _) = _; rw [Nat.zero_add]; rfl))
    (fun R => ⟨rm R, fun d => by
      show _ * k0_pay144 (ix2 R d) = _
      rw [Nat.mul_zero, acc_zero]
      pointwise [k0_pay144]
      try exact mul_zero _⟩) 2 (le_of_eq trips2.symm)
  obtain ⟨s1, s2, s3⟩ := st
  exact ⟨s1, fun f => s2 f (fun h => absurd h (by decide)), fun f => s3 f (fun h => absurd h (by decide))⟩

/-- The scores of the last tile, as the maxima and the powers of two read them. -/
theorem fin_load (Q : S1x4x256x128.Idx → EReal) (K : S1x1x8448x128.Idx → EReal) (L : List (View.Piece (Elt Ideal) S2x1024x1408 .f32))
    (hL : ∀ R (j : Fin 1408), a7.view.read (Elt Ideal) (a7.view.writes (Elt Ideal) a7.view.junk L) (ix3 1 R j) = sc Q K R (7040 + j.val)) (o : ℕ) (inb) :
    View.readCov (Val := Elt Ideal) a7.view L (Rect.unit (s := S2x1024x1408) ![1, o, 0] S1x64x1408.size inb).toLoadRect
      = fun j => onlS Q K 0 7040 ((Rect.unit (s := S2x1024x1408) ![1, o, 0] S1x64x1408.size inb).toLoadRect.idx j) := by
  have ho : o + 64 ≤ 1024 := inb 1
  funext j
  idx_vars j
  rw [View.readCov, View.readAt_apply, LoadRect.idx_eq_norm]
  pointwise [onlS]
  exact hL _ _

section
variable (hL : ∀ R (j : Fin 1408), a7.view.read (Elt Ideal) (a7.view.writes (Elt Ideal) a7.view.junk ((onlSt c i a3 h3 a4 h4 a5 h5 a6 h6 a7 h7 a8 h8 a9 h9 X3 X4 X5 f8).2.1 ++ runOnl.sl.H7_2 a3 a4 X3 X4)) (ix3 1 R j)
    = sc (a3.view.read (Elt Ideal) X3) (a4.view.read (Elt Ideal) X4) R (7040 + j.val))

include hL in
theorem fin_m (R : Fin 1024) : runOnl.sl.r_49 c i a3 h3 a4 h4 a5 h5 a6 h6 a7 h7 a8 h8 a9 h9 X3 X4 X5 f8 (ix2 R 0) = (onlSt c i a3 h3 a4 h4 a5 h5 a6 h6 a7 h7 a8 h8 a9 h9 X3 X4 X5 f8).1.1 (ix2 R 0) - mx (a3.view.read (Elt Ideal) X3) (a4.view.read (Elt Ideal) X4) 7040 (onlSt c i a3 h3 a4 h4 a5 h5 a6 h6 a7 h7 a8 h8 a9 h9 X3 X4 X5 f8).1.1 (ix2 R 0) := by
  have L := fin_load a7 _ _ _ hL
  have e25 : runOnl.sl.r_25 c i a3 h3 a4 h4 a5 h5 a6 h6 a7 h7 a8 h8 a9 h9 X3 X4 X5 f8 = (onlSt c i a3 h3 a4 h4 a5 h5 a6 h6 a7 h7 a8 h8 a9 h9 X3 X4 X5 f8).1.1 := rfl
  have e306 : runOnl.sl.v306 c i a3 h3 a4 h4 a5 h5 a6 h6 a7 h7 a8 h8 a9 h9 X3 X4 X5 f8 = _ := L 0 inb_S2x1024x1408_S1x64x1408_1_0_0
  have e321 : runOnl.sl.v321 c i a3 h3 a4 h4 a5 h5 a6 h6 a7 h7 a8 h8 a9 h9 X3 X4 X5 f8 = _ := L 64 inb_S2x1024x1408_S1x64x1408_1_64_0
  have e336 : runOnl.sl.v336 c i a3 h3 a4 h4 a5 h5 a6 h6 a7 h7 a8 h8 a9 h9 X3 X4 X5 f8 = _ := L 128 inb_S2x1024x1408_S1x64x1408_1_128_0
  have e351 : runOnl.sl.v351 c i a3 h3 a4 h4 a5 h5 a6 h6 a7 h7 a8 h8 a9 h9 X3 X4 X5 f8 = _ := L 192 inb_S2x1024x1408_S1x64x1408_1_192_0
  have e366 : runOnl.sl.v366 c i a3 h3 a4 h4 a5 h5 a6 h6 a7 h7 a8 h8 a9 h9 X3 X4 X5 f8 = _ := L 256 inb_S2x1024x1408_S1x64x1408_1_256_0
  have e381 : runOnl.sl.v381 c i a3 h3 a4 h4 a5 h5 a6 h6 a7 h7 a8 h8 a9 h9 X3 X4 X5 f8 = _ := L 320 inb_S2x1024x1408_S1x64x1408_1_320_0
  have e396 : runOnl.sl.v396 c i a3 h3 a4 h4 a5 h5 a6 h6 a7 h7 a8 h8 a9 h9 X3 X4 X5 f8 = _ := L 384 inb_S2x1024x1408_S1x64x1408_1_384_0
  have e411 : runOnl.sl.v411 c i a3 h3 a4 h4 a5 h5 a6 h6 a7 h7 a8 h8 a9 h9 X3 X4 X5 f8 = _ := L 448 inb_S2x1024x1408_S1x64x1408_1_448_0
  have e426 : runOnl.sl.v426 c i a3 h3 a4 h4 a5 h5 a6 h6 a7 h7 a8 h8 a9 h9 X3 X4 X5 f8 = _ := L 512 inb_S2x1024x1408_S1x64x1408_1_512_0
  have e441 : runOnl.sl.v441 c i a3 h3 a4 h4 a5 h5 a6 h6 a7 h7 a8 h8 a9 h9 X3 X4 X5 f8 = _ := L 576 inb_S2x1024x1408_S1x64x1408_1_576_0
  have e456 : runOnl.sl.v456 c i a3 h3 a4 h4 a5 h5 a6 h6 a7 h7 a8 h8 a9 h9 X3 X4 X5 f8 = _ := L 640 inb_S2x1024x1408_S1x64x1408_1_640_0
  have e471 : runOnl.sl.v471 c i a3 h3 a4 h4 a5 h5 a6 h6 a7 h7 a8 h8 a9 h9 X3 X4 X5 f8 = _ := L 704 inb_S2x1024x1408_S1x64x1408_1_704_0
  have e486 : runOnl.sl.v486 c i a3 h3 a4 h4 a5 h5 a6 h6 a7 h7 a8 h8 a9 h9 X3 X4 X5 f8 = _ := L 768 inb_S2x1024x1408_S1x64x1408_1_768_0
  have e501 : runOnl.sl.v501 c i a3 h3 a4 h4 a5 h5 a6 h6 a7 h7 a8 h8 a9 h9 X3 X4 X5 f8 = _ := L 832 inb_S2x1024x1408_S1x64x1408_1_832_0
  have e516 : runOnl.sl.v516 c i a3 h3 a4 h4 a5 h5 a6 h6 a7 h7 a8 h8 a9 h9 X3 X4 X5 f8 = _ := L 896 inb_S2x1024x1408_S1x64x1408_1_896_0
  have e531 : runOnl.sl.v531 c i a3 h3 a4 h4 a5 h5 a6 h6 a7 h7 a8 h8 a9 h9 X3 X4 X5 f8 = _ := L 960 inb_S2x1024x1408_S1x64x1408_1_960_0
  unfold runOnl.sl.r_49 k0_pay232
  rw [e25]
  refine congrArg (fun z : EReal => (onlSt c i a3 h3 a4 h4 a5 h5 a6 h6 a7 h7 a8 h8 a9 h9 X3 X4 X5 f8).1.1 (ix2 R 0) - z) ?_
  refine concat16 (fun R => mx (a3.view.read (Elt Ideal) X3) (a4.view.read (Elt Ideal) X4) 7040 (onlSt c i a3 h3 a4 h4 a5 h5 a6 h6 a7 h7 a8 h8 a9 h9 X3 X4 X5 f8).1.1 (ix2 R 0)) _ _ _ _ _ _ _ _ _ _ _ _ _ _ _ _
    ?_ ?_ ?_ ?_ ?_ ?_ ?_ ?_ ?_ ?_ ?_ ?_ ?_ ?_ ?_ ?_ R
  all_goals
    simp only [runOnl.sl.r_30, runOnl.sl.r_31, runOnl.sl.r_32, runOnl.sl.r_33, runOnl.sl.r_34, runOnl.sl.r_35, runOnl.sl.r_36, runOnl.sl.r_37, runOnl.sl.r_38, runOnl.sl.r_39, runOnl.sl.r_40, runOnl.sl.r_41, runOnl.sl.r_42, runOnl.sl.r_43, runOnl.sl.r_44, runOnl.sl.r_45, runOnl.sl.r_46, runOnl.sl.r_47, runOnl.sl.r_48, e25, e306, e321, e336, e351, e366, e381, e396, e411, e426, e441, e456, e471, e486, e501, e516, e531]
    generalize (onlSt c i a3 h3 a4 h4 a5 h5 a6 h6 a7 h7 a8 h8 a9 h9 X3 X4 X5 f8).1.1 = m
    intro x
    pointwise [k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, onlS, mx]

include hL in
theorem fin_pieces : ∀ p ∈ List.take 16 (runOnl.sl.H8_16 c i a3 h3 a4 h4 a5 h5 a6 h6 a7 h7 a8 h8 a9 h9 X3 X4 X5 f8), ∀ x : p.1.shape.Idx,
    p.2 x = onlP (a3.view.read (Elt Ideal) X3) (a4.view.read (Elt Ideal) X4) 0 7040 (onlSt c i a3 h3 a4 h4 a5 h5 a6 h6 a7 h7 a8 h8 a9 h9 X3 X4 X5 f8).1.1
      (mx (a3.view.read (Elt Ideal) X3) (a4.view.read (Elt Ideal) X4) 7040 (onlSt c i a3 h3 a4 h4 a5 h5 a6 h6 a7 h7 a8 h8 a9 h9 X3 X4 X5 f8).1.1) (p.1.emb x) := by
  have L := fin_load a7 _ _ _ hL
  have e25 : runOnl.sl.r_25 c i a3 h3 a4 h4 a5 h5 a6 h6 a7 h7 a8 h8 a9 h9 X3 X4 X5 f8 = (onlSt c i a3 h3 a4 h4 a5 h5 a6 h6 a7 h7 a8 h8 a9 h9 X3 X4 X5 f8).1.1 := rfl
  have e306 : runOnl.sl.v306 c i a3 h3 a4 h4 a5 h5 a6 h6 a7 h7 a8 h8 a9 h9 X3 X4 X5 f8 = _ := L 0 inb_S2x1024x1408_S1x64x1408_1_0_0
  have e321 : runOnl.sl.v321 c i a3 h3 a4 h4 a5 h5 a6 h6 a7 h7 a8 h8 a9 h9 X3 X4 X5 f8 = _ := L 64 inb_S2x1024x1408_S1x64x1408_1_64_0
  have e336 : runOnl.sl.v336 c i a3 h3 a4 h4 a5 h5 a6 h6 a7 h7 a8 h8 a9 h9 X3 X4 X5 f8 = _ := L 128 inb_S2x1024x1408_S1x64x1408_1_128_0
  have e351 : runOnl.sl.v351 c i a3 h3 a4 h4 a5 h5 a6 h6 a7 h7 a8 h8 a9 h9 X3 X4 X5 f8 = _ := L 192 inb_S2x1024x1408_S1x64x1408_1_192_0
  have e366 : runOnl.sl.v366 c i a3 h3 a4 h4 a5 h5 a6 h6 a7 h7 a8 h8 a9 h9 X3 X4 X5 f8 = _ := L 256 inb_S2x1024x1408_S1x64x1408_1_256_0
  have e381 : runOnl.sl.v381 c i a3 h3 a4 h4 a5 h5 a6 h6 a7 h7 a8 h8 a9 h9 X3 X4 X5 f8 = _ := L 320 inb_S2x1024x1408_S1x64x1408_1_320_0
  have e396 : runOnl.sl.v396 c i a3 h3 a4 h4 a5 h5 a6 h6 a7 h7 a8 h8 a9 h9 X3 X4 X5 f8 = _ := L 384 inb_S2x1024x1408_S1x64x1408_1_384_0
  have e411 : runOnl.sl.v411 c i a3 h3 a4 h4 a5 h5 a6 h6 a7 h7 a8 h8 a9 h9 X3 X4 X5 f8 = _ := L 448 inb_S2x1024x1408_S1x64x1408_1_448_0
  have e426 : runOnl.sl.v426 c i a3 h3 a4 h4 a5 h5 a6 h6 a7 h7 a8 h8 a9 h9 X3 X4 X5 f8 = _ := L 512 inb_S2x1024x1408_S1x64x1408_1_512_0
  have e441 : runOnl.sl.v441 c i a3 h3 a4 h4 a5 h5 a6 h6 a7 h7 a8 h8 a9 h9 X3 X4 X5 f8 = _ := L 576 inb_S2x1024x1408_S1x64x1408_1_576_0
  have e456 : runOnl.sl.v456 c i a3 h3 a4 h4 a5 h5 a6 h6 a7 h7 a8 h8 a9 h9 X3 X4 X5 f8 = _ := L 640 inb_S2x1024x1408_S1x64x1408_1_640_0
  have e471 : runOnl.sl.v471 c i a3 h3 a4 h4 a5 h5 a6 h6 a7 h7 a8 h8 a9 h9 X3 X4 X5 f8 = _ := L 704 inb_S2x1024x1408_S1x64x1408_1_704_0
  have e486 : runOnl.sl.v486 c i a3 h3 a4 h4 a5 h5 a6 h6 a7 h7 a8 h8 a9 h9 X3 X4 X5 f8 = _ := L 768 inb_S2x1024x1408_S1x64x1408_1_768_0
  have e501 : runOnl.sl.v501 c i a3 h3 a4 h4 a5 h5 a6 h6 a7 h7 a8 h8 a9 h9 X3 X4 X5 f8 = _ := L 832 inb_S2x1024x1408_S1x64x1408_1_832_0
  have e516 : runOnl.sl.v516 c i a3 h3 a4 h4 a5 h5 a6 h6 a7 h7 a8 h8 a9 h9 X3 X4 X5 f8 = _ := L 896 inb_S2x1024x1408_S1x64x1408_1_896_0
  have e531 : runOnl.sl.v531 c i a3 h3 a4 h4 a5 h5 a6 h6 a7 h7 a8 h8 a9 h9 X3 X4 X5 f8 = _ := L 960 inb_S2x1024x1408_S1x64x1408_1_960_0
  unfold runOnl.sl.H8_16
  simp only [List.take_succ_cons, List.take_zero, List.forall_mem_cons, List.not_mem_nil, false_imp_iff, implies_true, and_true]
  simp only [runOnl.sl.r_30, runOnl.sl.r_31, runOnl.sl.r_32, runOnl.sl.r_33, runOnl.sl.r_34, runOnl.sl.r_35, runOnl.sl.r_36, runOnl.sl.r_37, runOnl.sl.r_38, runOnl.sl.r_39, runOnl.sl.r_40, runOnl.sl.r_41, runOnl.sl.r_42, runOnl.sl.r_43, runOnl.sl.r_44, runOnl.sl.r_45, runOnl.sl.r_46, runOnl.sl.r_47, runOnl.sl.r_48, e25, e306, e321, e336, e351, e366, e381, e396, e411, e426, e441, e456, e471, e486, e501, e516, e531]
  generalize (onlSt c i a3 h3 a4 h4 a5 h5 a6 h6 a7 h7 a8 h8 a9 h9 X3 X4 X5 f8).1.1 = m
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  all_goals
    idx_vars x
    pointwise [k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, onlP, onlS, mx, emb_eq_norm]
    rfl

include hL in
theorem fin_p (R : Fin 1024) (j : Fin 1408) : runOnl.sl.v552 c i a3 h3 a4 h4 a5 h5 a6 h6 a7 h7 a8 h8 a9 h9 X3 X4 X5 f8 (ix3 0 R j)
    = Ideal.exp2 (sc (a3.view.read (Elt Ideal) X3) (a4.view.read (Elt Ideal) X4) R (7040 + j.val) - mx (a3.view.read (Elt Ideal) X3) (a4.view.read (Elt Ideal) X4) 7040 (onlSt c i a3 h3 a4 h4 a5 h5 a6 h6 a7 h7 a8 h8 a9 h9 X3 X4 X5 f8).1.1 (ix2 R 0)) := by
  have hc : ∀ j : S1x1024x1408.Idx, ∃ p ∈ List.take 16 (runOnl.sl.H8_16 c i a3 h3 a4 h4 a5 h5 a6 h6 a7 h7 a8 h8 a9 h9 X3 X4 X5 f8), (Rect.unit (s := S2x1024x1408) ![1, 0, 0] S1x1024x1408.size inb_S2x1024x1408_S1x1024x1408_1_0_0).toLoadRect.idx j ∈ p.1.set := by
    unfold runOnl.sl.H8_16
    repeat rw [List.take_succ_cons]
    rw [List.take_zero]
    exact LoadRect.cover_of_covChk _ (Rect.unit (s := S2x1024x1408) ![1, 0, 0] S1x1024x1408.size inb_S2x1024x1408_S1x1024x1408_1_0_0).toLoadRect (rowsCov 15) (by sl_kernel_rfl)
  unfold runOnl.sl.v552
  rw [View.readCov, View.readAt_apply, ← List.take_append_drop 16 (runOnl.sl.H8_16 c i a3 h3 a4 h4 a5 h5 a6 h6 a7 h7 a8 h8 a9 h9 X3 X4 X5 f8), View.writes_append,
    read_writes_of a8.view _ _ _ (fin_pieces c i a3 h3 a4 h4 a5 h5 a6 h6 a7 h7 a8 h8 a9 h9 X3 X4 X5 f8 hL) _ (hc _), LoadRect.idx_eq_norm]
  pointwise [onlP]
end

theorem onl_fin (Q : S1x4x256x128.Idx → EReal) (K : S1x1x8448x128.Idx → EReal) (V : S1x1x8448x256.Idx → EReal)
    (hQ : ∀ x, IsR (Q x)) (hK : ∀ x, IsR (K x)) (hV : ∀ k (d : Fin 128), V (ix4 0 0 k ⟨128 + d, by omega⟩) = 1)
    (t : FVec Ideal S1024x1 .f32 × FVec Ideal S1024x256 .f32 × FVec Ideal S1024x1 .f32) (ht : OnlInv Q K V 2 t)
    (v : Vec Ideal S1x1x1408x256 .bf16) (p : Vec Ideal S1x1024x1408 .bf16) (b : FVec Ideal S1024x1 .f32) (v' : Vec Ideal S1x1x1408x256 .bf16) (p' : Vec Ideal S1x1024x1408 .bf16)
    (hp : ∀ R j, p (ix3 0 R j) = Ideal.exp2 (sc Q K R (5632 + j.val) - t.1 (ix2 R 0))) (hv : ∀ j d, v (ix4 0 0 j d) = vc V d (5632 + j))
    (hb : ∀ R : Fin 1024, b (ix2 R 0) = t.1 (ix2 R 0) - mx Q K 7040 t.1 (ix2 R 0))
    (hp' : ∀ R j, p' (ix3 0 R j) = Ideal.exp2 (sc Q K R (7040 + j.val) - mx Q K 7040 t.1 (ix2 R 0))) (hv' : ∀ j d, v' (ix4 0 0 j d) = vc V d (7040 + j))
    (R : Fin 1024) (d : Fin 128) :
    k0_pay233 (k0_pay194 (k0_pay191 v) (k0_pay192 t.2.1 t.2.2) (k0_pay193 p) runOnl.sl.cst_189) b v' p' (ix2 R d) = avg 8448 (sc Q K R) (vc V ⟨d, by omega⟩) := by
  have rm := mx_isR hQ hK 7040 t.1 fun R => .inl (ht R).1
  have s0 := sc_isR hQ hK R
  have h : ∀ d : Fin 256, Ideal.exp2 (b (ix2 R 0)) * (t.2.2 (ix2 R 0) * t.2.1 (ix2 R d) + ∑ x, p (ix3 0 R x) * v (ix4 0 0 x d)) + (∑ x, p' (ix3 0 R x) * v' (ix4 0 0 x d))
      = acc 8448 (sc Q K R) (mx Q K 7040 t.1 (ix2 R 0)) (vc V d) := by
    intro d
    rw [hb, (ht R).2 d, show (8448 : ℕ) = 7040 + 1408 by rfl, ← acc_step 7040 1408 _ _ (t.1 (ix2 R 0)) _ s0 (.inl (ht R).1) (rm R), show (7040 : ℕ) = 5632 + 1408 by rfl, acc_add]
    refine congrArg₂ (· + ·) (congrArg (_ * ·) (congrArg (_ + ·) (Finset.sum_congr rfl fun x _ => congrArg₂ (· * ·) (hp R x) (hv x d)))) (Finset.sum_congr rfl fun x _ => congrArg₂ (· * ·) (hp' R x) (hv' x d))
  pointwise [k0_pay233, k0_pay194, k0_pay191, k0_pay192, k0_pay193, runOnl.sl.cst_189]
  refine (congrArg₂ Ideal.div (h _) (h _)).trans ?_
  exact div_acc 8448 (by decide) _ (vc V ⟨d, by omega⟩) (vc V ⟨128 + d, by omega⟩) _ s0 (rm R) (fun k => hV _ d)

variable (f9 : BufTy.Contents (Elt Ideal) a9.view.ty)
    (hc1 : ¬ Scalar.cmpi .ne (Scalar.extui (Scalar.cmpi .eq (BitVec.ofNat 32 (i 2).val) 0#32)) 0#32 = 1#1)
    (hc2 : ¬ k0_cond2 i = 1#1) (hb : ¬ okBit a3 a9 X3 f9 = 1#1)

theorem onl_out (hQ : ∀ x, IsR (a3.view.read (Elt Ideal) X3 x)) (hK : ∀ x, IsR (a4.view.read (Elt Ideal) X4 x))
    (hV : ∀ k (d : Fin 128), a5.view.read (Elt Ideal) X5 (ix4 0 0 k ⟨128 + d, by omega⟩) = 1) (f6 f7 f8) (y : S1x256x512.Idx) :
    a6.view.read (Elt Ideal) ((runOnl c i a3 h3 a4 h4 a5 h5 a6 h6 a7 h7 a8 h8 a9 h9 X3 X4 X5 f9 hc1 hc2 hb).1 f6 f7 f8) y
      = outG 8448 (a3.view.read (Elt Ideal) X3) (a4.view.read (Elt Ideal) X4) (a5.view.read (Elt Ideal) X5) y := by
  unfold runOnl
  dsimp only
  obtain ⟨s1, s2, s3⟩ := onlSt_inv c i a3 h3 a4 h4 a5 h5 a6 h6 a7 h7 a8 h8 a9 h9 X3 X4 X5 f8 hQ hK
  have hL := fun R j => (congrArg (fun f => a7.view.read (Elt Ideal) f (ix3 1 R j)) (View.writes_append a7.view a7.view.junk (onlSt c i a3 h3 a4 h4 a5 h5 a6 h6 a7 h7 a8 h8 a9 h9 X3 X4 X5 f8).2.1 (runOnl.sl.H7_2 a3 a4 X3 X4))).trans (s2 _ R j)
  have key : ∀ (R : Fin 1024) (d : Fin 128), k0_pay233 (runOnl.sl.r_29 c i a3 h3 a4 h4 a5 h5 a6 h6 a7 h7 a8 h8 a9 h9 X3 X4 X5 f8) (runOnl.sl.r_49 c i a3 h3 a4 h4 a5 h5 a6 h6 a7 h7 a8 h8 a9 h9 X3 X4 X5 f8)
      (View.readAt (Elt Ideal) a5.view (Rect.unit (s := S1x1x8448x256) ![0, 0, 7040, 0] S1x1x1408x256.size inb_S1x1x8448x256_S1x1x1408x256_0_0_7040_0).toLoadRect X5)
      (runOnl.sl.v552 c i a3 h3 a4 h4 a5 h5 a6 h6 a7 h7 a8 h8 a9 h9 X3 X4 X5 f8) (ix2 R d)
      = avg 8448 (sc (a3.view.read (Elt Ideal) X3) (a4.view.read (Elt Ideal) X4) R) (vc (a5.view.read (Elt Ideal) X5) ⟨d, by omega⟩) := by
    intro R d
    refine onl_fin _ _ _ hQ hK hV (onlSt c i a3 h3 a4 h4 a5 h5 a6 h6 a7 h7 a8 h8 a9 h9 X3 X4 X5 f8).1 s1 _ (runOnl.sl.v301 c i a3 h3 a4 h4 a5 h5 a6 h6 a7 h7 a8 h8 a9 h9 X3 X4 X5 f8) _ _ _ (fun R j => ?_) (fun j d => ?_)
      (fin_m c i a3 h3 a4 h4 a5 h5 a6 h6 a7 h7 a8 h8 a9 h9 X3 X4 X5 f8 hL) (fun R j => fin_p c i a3 h3 a4 h4 a5 h5 a6 h6 a7 h7 a8 h8 a9 h9 X3 X4 X5 f8 hL R j) (fun j d => ?_) R d
    · have e301 : runOnl.sl.v301 c i a3 h3 a4 h4 a5 h5 a6 h6 a7 h7 a8 h8 a9 h9 X3 X4 X5 f8 = View.readAt (Elt Ideal) a8.view (Rect.unit (s := S2x1024x1408) ![0, 0, 0] S1x1024x1408.size inb_S2x1024x1408_S1x1024x1408_0_0_0).toLoadRect
          (a8.view.writes (Elt Ideal) f8 ((onlSt c i a3 h3 a4 h4 a5 h5 a6 h6 a7 h7 a8 h8 a9 h9 X3 X4 X5 f8).2.2 ++ onlInit a3 a4 a7 X3 X4)) := rfl
      rw [e301, View.readAt_apply, View.writes_append, LoadRect.idx_eq_norm]
      pointwise
      exact s3 _ R j
    · pointwise [View.readAt_apply]
      exact v_at _ _ _ _ _ _ _ rfl (by simp)
    · pointwise [View.readAt_apply]
      exact v_at _ _ _ _ _ _ _ rfl (by simp)
  refine read_writes_of a6.view _ _ _ ?_ y (View.cover_of_tiledL _ ![1, 256, 128] (by sl_kernel_rfl) y)
  simp only [List.forall_mem_cons, List.not_mem_nil, false_imp_iff, implies_true, and_true]
  refine ⟨fun x => ?_, fun x => ?_, fun x => ?_, fun x => ?_⟩
  · idx_vars x
    pointwise [runOnl.sl.r_50, k0_pay1, k0_pay2, k0_pay234, k0_pay235, k0_pay236, emb_eq_norm]
    exact (key _ _).trans (outG_at _ _ _ _ 3 _ _ _ _ _ _ rfl rfl rfl)
  · idx_vars x
    pointwise [runOnl.sl.r_51, runOnl.sl.r_50, k0_pay1, k0_pay2, k0_pay234, k0_pay235, k0_pay236, emb_eq_norm]
    exact (key _ _).trans (outG_at _ _ _ _ 2 _ _ _ _ _ _ rfl rfl rfl)
  · idx_vars x
    pointwise [runOnl.sl.r_50, k0_pay1, k0_pay2, k0_pay234, k0_pay235, k0_pay236, emb_eq_norm]
    exact (key _ _).trans (outG_at _ _ _ _ 1 _ _ _ _ _ _ rfl rfl rfl)
  · idx_vars x
    pointwise [runOnl.sl.r_50, k0_pay1, k0_pay2, k0_pay234, k0_pay235, k0_pay236, emb_eq_norm]
    exact (key _ _).trans (outG_at _ _ _ _ 0 _ _ _ _ _ _ (by simp) (by simp) rfl)

end Cert.Proof

end
-- ==== Proof.Spec.lean ====
module

public import proofs.«01_k».proof.Proof.Reads

@[expose] public section

noncomputable section

namespace Cert.Proof

open Cert.KernelIdeal
open Idealize.ShloMosaic

/-- The score of query `t` of head `h` against key `j`; four heads share a key. -/
def qk (Q : S2x16x8448x128.Idx → EReal) (K : S2x4x8448x128.Idx → EReal) (b : Fin 2) (h : Fin 16) (t : Fin 8448) (j : ℕ) : EReal :=
  ∑ d : Fin 128, Q (ix4 b h t d) * K (ix4 b ⟨h / 4, by omega⟩ ⟨j % 8448, by omega⟩ d)

/-- Column `d` of the values head `h` averages. -/
def vv (V : S2x4x8448x128.Idx → EReal) (b : Fin 2) (h : Fin 16) (d : Fin 128) (j : ℕ) : EReal :=
  V (ix4 b ⟨h / 4, by omega⟩ ⟨j % 8448, by omega⟩ d)

/-- The attention: a context query averages over the context keys, any other query over all keys. -/
def attn (Q : S2x16x8448x128.Idx → EReal) (K : S2x4x8448x128.Idx → EReal) (V : S2x4x8448x128.Idx → EReal) : S2x8448x2048.Idx → EReal := fun y =>
  have h2 : (y 2).val < 2048 := (y 2).isLt
  avg (if (y 1).val < 256 then 256 else 8448) (qk Q K (y 0) ⟨(y 2).val / 128, by omega⟩ (y 1)) (vv V (y 0) ⟨(y 2).val / 128, by omega⟩ ⟨(y 2).val % 128, by omega⟩)

theorem qk_isR {Q : S2x16x8448x128.Idx → EReal} {K : S2x4x8448x128.Idx → EReal} (hQ : ∀ x, IsR (Q x)) (hK : ∀ x, IsR (K x))
    (b : Fin 2) (h : Fin 16) (t : Fin 8448) (j : ℕ) : IsR (qk Q K b h t j) := IsR.sum _ _ fun _ _ => (hQ _).mul (hK _)

end Cert.Proof

end
-- ==== Proof.ValBody.lean ====
module

public import proofs.«01_k».proof.Proof.Body
public import proofs.«01_k».proof.Proof.ValBnd
public import proofs.«01_k».proof.Proof.ValCtx
public import proofs.«01_k».proof.Proof.ValOnl
public import proofs.«01_k».proof.Proof.Spec
public import Idealize.ShloMosaic.Lib.Pipeline.ValueKit.Geometry

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- How many keys the queries of a grid point average over. -/
def keys (n : ℕ) : ℕ := if n = 0 then 256 else 8448

/-- The body at any point: the output block ends at the averages, the bound's scratch at reals. -/
theorem body_val (c : Dev nD) (i : grid0.Coords) (a3 : Memref sig .tc .vmem S1x4x256x128 .bf16) (h3 : a3.IsWhole) (a4 : Memref sig .tc .vmem S1x1x8448x128 .bf16) (h4 : a4.IsWhole)
    (a5 : Memref sig .tc .vmem S1x1x8448x256 .bf16) (h5 : a5.IsWhole) (a6 : Memref sig .tc .vmem S1x256x512 .bf16) (h6 : a6.IsWhole)
    (a7 : Memref sig .tc .vmem S2x1024x1408 .f32) (h7 : a7.IsWhole) (a8 : Memref sig .tc .vmem S2x1024x1408 .bf16) (h8 : a8.IsWhole)
    (a9 : Memref sig .tc .vmem S8x128 .f32) (h9 : a9.IsWhole)
    (X3 : BufTy.Contents (Elt Ideal) a3.view.ty) (X4 : BufTy.Contents (Elt Ideal) a4.view.ty) (X5 : BufTy.Contents (Elt Ideal) a5.view.ty)
    (f6 : BufTy.Contents (Elt Ideal) a6.view.ty) (f7 : BufTy.Contents (Elt Ideal) a7.view.ty) (f8 : BufTy.Contents (Elt Ideal) a8.view.ty) (f9 : BufTy.Contents (Elt Ideal) a9.view.ty)
    (hQ : ∀ x, IsR (a3.view.read (Elt Ideal) X3 x)) (hK : ∀ x, IsR (a4.view.read (Elt Ideal) X4 x))
    (hV : ∀ k (d : Fin 128), a5.view.read (Elt Ideal) X5 (ix4 0 0 k ⟨128 + d, by omega⟩) = 1)
    (hr : (i 2).val ≠ 0 → ∀ x, IsR (a9.view.read (Elt Ideal) f9 x)) :
    iprop(pt c a3 X3 ∗ pt c a4 X4 ∗ pt c a5 X5 ∗ pt c a6 f6 ∗ pt c a7 f7 ∗ pt c a8 f8 ∗ pt c a9 f9)
      ⊢ wp frame (wpE (defs₀ (F := Ideal)) Variants.none (c : Thread nD τ) none) Set.univ (cc0_flash_attention (F := Ideal) i a3 h3 a4 h4 a5 h5 a6 h6 a7 h7 a8 h8 a9 h9)
          (fun _ => iprop(pt c a3 X3 ∗ pt c a4 X4 ∗ pt c a5 X5
            ∗ (∃ f, ⌜a6.view.read (Elt Ideal) f = outG (keys (i 2).val) (a3.view.read (Elt Ideal) X3) (a4.view.read (Elt Ideal) X4) (a5.view.read (Elt Ideal) X5)⌝ ∗ pt c a6 f)
            ∗ (∃ f, pt c a7 f) ∗ (∃ f, pt c a8 f) ∗ (∃ f, ⌜∀ x, IsR (a9.view.read (Elt Ideal) f x)⌝ ∗ pt c a9 f))) := by
  have post : ∀ g6 g7 g8 g9, a6.view.read (Elt Ideal) g6 = outG (keys (i 2).val) (a3.view.read (Elt Ideal) X3) (a4.view.read (Elt Ideal) X4) (a5.view.read (Elt Ideal) X5) →
      (∀ x, IsR (a9.view.read (Elt Ideal) g9 x)) →
      ((iprop(pt c a3 X3 ∗ pt c a4 X4 ∗ pt c a5 X5 ∗ pt c a6 g6 ∗ pt c a7 g7 ∗ pt c a8 g8 ∗ pt c a9 g9) : sProp 𝕄)
      ⊢ iprop(pt c a3 X3 ∗ pt c a4 X4 ∗ pt c a5 X5
            ∗ (∃ f, ⌜a6.view.read (Elt Ideal) f = outG (keys (i 2).val) (a3.view.read (Elt Ideal) X3) (a4.view.read (Elt Ideal) X4) (a5.view.read (Elt Ideal) X5)⌝ ∗ pt c a6 f)
            ∗ (∃ f, pt c a7 f) ∗ (∃ f, pt c a8 f) ∗ (∃ f, ⌜∀ x, IsR (a9.view.read (Elt Ideal) f x)⌝ ∗ pt c a9 f))) := by
    intro g6 g7 g8 g9 e6 e9
    iintro ⟨H3, H4, H5, H6, H7, H8, H9⟩
    isplitl [H3]; · iexact H3
    isplitl [H4]; · iexact H4
    isplitl [H5]; · iexact H5
    isplitl [H6]
    · iexists g6; isplitr; swap; · iexact H6
      ipureintro; exact e6
    isplitl [H7]; · iexists _; iexact H7
    isplitl [H8]; · iexists _; iexact H8
    iexists g9; isplitr; swap; · iexact H9
    ipureintro; exact e9
  by_cases h0 : (i 2).val = 0
  · have hc1 := (ctx_conds (i 2)).1.2 h0
    have hc2 : k0_cond2 i = 1#1 := (ctx_conds (i 2)).2.2 h0
    have hn : keys (i 2).val = 256 := if_pos h0
    exact ((runCtx c i a3 h3 a4 h4 a5 h5 a6 h6 a7 h7 a8 h8 a9 h9 X3 X4 X5 f9 hc1 hc2).2.2.2.2 Set.univ f6 f7 f8).trans
      (wp_mono _ _ _ fun _ => post _ _ _ _ (by rw [hn]; exact funext fun y => ctx_out (hQ := hQ) (hK := hK) (hV := hV) ..)
        (fun y => ctx_norm (hK := hK) ..))
  · have hc1 := mt (ctx_conds (i 2)).1.1 h0
    have hc2 : ¬ k0_cond2 i = 1#1 := mt (ctx_conds (i 2)).2.1 h0
    have hn : keys (i 2).val = 8448 := if_neg h0
    by_cases hb : okBit a3 a9 X3 f9 = 1#1
    · exact ((runBnd c i a3 h3 a4 h4 a5 h5 a6 h6 a7 h7 a8 h8 a9 h9 X3 X4 X5 f9 hc1 hc2 hb).2.2.2.2 Set.univ f6 f7 f8).trans
        (wp_mono _ _ _ fun _ => post _ _ _ _ (by rw [hn]; exact funext fun y => bnd_out (hQ := hQ) (hK := hK) (hV := hV) (h9r := hr h0) ..) (hr h0))
    · exact ((runOnl c i a3 h3 a4 h4 a5 h5 a6 h6 a7 h7 a8 h8 a9 h9 X3 X4 X5 f9 hc1 hc2 hb).2.2.2.2 Set.univ f6 f7 f8).trans
        (wp_mono _ _ _ fun _ => post _ _ _ _ (by rw [hn]; exact funext fun y => onl_out (hQ := hQ) (hK := hK) (hV := hV) ..) (hr h0))

end Cert.Proof

end
-- ==== Proof.ValRun.lean ====
module

public import proofs.«01_k».proof.Proof.ValBody

@[expose] public section

set_option maxRecDepth 16384

noncomputable section

namespace Cert.Proof.AtIdeal

open Cert.KernelIdeal Cert.KernelIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- What the body leaves in the output block: the averages of the point's blocks. -/
def outB (c : Dev nD) (t : Fin cfg0.N) : S1x256x512.Idx → EReal :=
  outG (keys (grid0.coords t 2).val) (iblk m c 0 t) (iblk m c 1 t) (iblk m c 2 t)

/-- Between points: the scratch buffers are owned, and after the first point the bound's scratch holds reals. -/
def inv (c : Dev nD) (n : ℕ) : sProp 𝕄 :=
  iprop(((∃ f, pt c (Memref.whole cc0_scratch0) f) ∗ (∃ f, pt c (Memref.whole cc0_scratch1) f)
      ∗ (∃ f, ⌜n ≠ 0 → ∀ x, IsR ((Memref.whole cc0_scratch2).view.read (Elt Ideal) f x)⌝ ∗ pt c (Memref.whole cc0_scratch2) f))
    ∗ ∃ r, prngReg c r)

def dats (_ : Fin 1) (c : Dev nD) : Dat τ (Elt Ideal) Unit ℕ (UR sig nD τ) ℕ cfg0 c where
  A w := V m c (arrRef spec0 w)
  after := fun
    | 0 => fun t => iblk m c 0 t
    | 1 => fun t => iblk m c 1 t
    | 2 => fun t => iblk m c 2 t
    | 3 => fun t => outB m c t
    | ⟨_ + 4, h⟩ => absurd h (Nat.not_lt.2 (Nat.le_add_left _ _))
  Φ t := inv c t.val
  q _ := fullShare
  owed _ := 0

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare (outB m c t))

theorem A_eq (c : Dev nD) (w : Fin cfg0.W) : (dats m 0 c).A w = V m c (arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d

theorem coord_ne : ∀ t : Fin grid0.N, (grid0.coords t 2).val ≠ 0 → t.val ≠ 0 := by decide +kernel

/-- The values' block at the point. -/
def vblk (c : Dev nD) (t : Fin cfg0.N) : S1x1x8448x256.Idx → EReal := iblk m c 2 t

/-- The blocks' entries the body's arithmetic needs. -/
structure Good (c : Dev nD) : Prop where
  q : ∀ t x, IsR (iblk m c 0 t x)
  k : ∀ t x, IsR (iblk m c 1 t x)
  v : ∀ t (k : Fin 8448) (d : Fin 128), vblk m c t (ix4 0 0 k ⟨128 + d, by omega⟩) = 1

/-- The body at the point, the invariant opened into the three scratch buffers. -/
theorem sound_body (c : Dev nD) (hg : Good m c) (t : Fin cfg0.N) :
    bodyPre m c t ⊢ wp frame (wpE (defs₀ (F := Ideal)) Variants.none (c : Thread nD τ) none) Set.univ (bodyAt0 t) (fun _ => bodyPost m c t) := by
  unfold bodyPre bodyPost
  simp only [before_0, before_1, before_2]
  rw [show (dats m 0 c).owesAt () t.succ = (dats m 0 c).owesAt () t.castSucc from rfl,
    show (dats m 0 c).Φ t.castSucc = inv c t.val from rfl, show (dats m 0 c).Φ t.succ = inv c (t.val + 1) from rfl]
  unfold inv owns
  iintro ⟨⟨⟨⟨%f7, H7⟩, ⟨%f8, H8⟩, ⟨%f9, %hr, H9⟩⟩, Hr⟩, HO, ⟨%d0, %X3, %e3, H3⟩, ⟨%d1, %X4, %e4, H4⟩, ⟨%d2, %X5, %e5, H5⟩, ⟨%d3, %f6, -, H6⟩⟩
  ihave Hw : wp frame (wpE (defs₀ (F := Ideal)) Variants.none (c : Thread nD τ) none) Set.univ (bodyAt0 t) (fun _ => iprop(pt c (st0_0 t) X3 ∗ pt c (st0_1 t) X4 ∗ pt c (st0_2 t) X5 ∗ (∃ f, ⌜(st0_3 t).view.read (Elt Ideal) f = outG (keys (grid0.coords t 2).val) ((st0_0 t).view.read (Elt Ideal) X3) ((st0_1 t).view.read (Elt Ideal) X4) ((st0_2 t).view.read (Elt Ideal) X5)⌝ ∗ pt c (st0_3 t) f) ∗ (∃ f, pt c (Memref.whole cc0_scratch0) f) ∗ (∃ f, pt c (Memref.whole cc0_scratch1) f) ∗ (∃ f, ⌜∀ x, IsR ((Memref.whole cc0_scratch2).view.read (Elt Ideal) f x)⌝ ∗ pt c (Memref.whole cc0_scratch2) f))) $$ [H3 H4 H5 H6 H7 H8 H9]
  · unfold bodyAt0
    iapply (body_val c (grid0.coords t) (st0_0 t) _ (st0_1 t) _ (st0_2 t) _ (st0_3 t) _ _ _ _ _ _ _ X3 X4 X5 f6 f7 f8 f9
      (fun x => by rw [e3]; exact hg.q t x) (fun x => by rw [e4]; exact hg.k t x) (fun k d => by rw [e5]; exact hg.v t k d) (fun h => hr (coord_ne t h)))
    isplitl [H3]; · iexact H3
    isplitl [H4]; · iexact H4
    isplitl [H5]; · iexact H5
    isplitl [H6]; · iexact H6
    isplitl [H7]; · iexact H7
    isplitl [H8]; · iexact H8
    iexact H9
  iapply (wp_wand_r _ _ _)
  isplitl [Hw]; · iexact Hw
  iintro %a ⟨H3, H4, H5, ⟨%g6, %e6, H6⟩, H7, H8, ⟨%g9, %e9, H9⟩⟩
  isplitl [H7 H8 H9 Hr]
  · isplitr [Hr]; swap; · iexact Hr
    isplitl [H7]; · iexact H7
    isplitl [H8]; · iexact H8
    iexists g9; isplitr; swap; · iexact H9
    ipureintro; exact fun _ => e9
  isplitl [HO]; · iexact HO
  isplitl [H3]
  · iexists X3; isplitr; swap; · iexact H3
    ipureintro; exact e3
  isplitl [H4]
  · iexists X4; isplitr; swap; · iexact H4
    ipureintro; exact e4
  isplitl [H5]
  · iexists X5; isplitr; swap; · iexact H5
    ipureintro; exact e5
  iexists g6; isplitr; swap; · iexact H6
  ipureintro; rw [e6, e3, e4, e5]; rfl

theorem body_obligation (hg : ∀ c, Good m c) (c : Dev nD) :
    BodyObligation (dats m 0 c) (defs₀ (F := Ideal)) Variants.none () Set.univ := fun t => by
  rw [bigSep_W0, bigSep_W0, defs₀_row]
  exact triple_restated (sound_body m c (hg c) t) rfl .rfl fun _ => .rfl

theorem inv_in (c : Dev nD) : ΦA spec0 c ⊢ inv c 0 := by
  unfold ΦA inv
  rw [scopedRest0_eq]
  iintro ⟨⟨⟨%f7, H7⟩, ⟨%f8, H8⟩, ⟨%f9, H9⟩⟩, Hr⟩
  simp only [pt, View.set_whole]
  isplitr [Hr]; swap; · iexact Hr
  isplitl [H7]; · iexists f7; iexact H7
  isplitl [H8]; · iexists f8; iexact H8
  iexists f9; isplitr; swap; · iexact H9
  ipureintro; exact fun h => absurd rfl h

theorem inv_out (c : Dev nD) (n : ℕ) : inv c n ⊢ ΦA spec0 c := by
  unfold ΦA inv
  rw [scopedRest0_eq]
  simp only [pt, View.set_whole]
  iintro ⟨⟨⟨%f7, H7⟩, ⟨%f8, H8⟩, ⟨%f9, %_, H9⟩⟩, Hr⟩
  isplitr [Hr]; swap; · iexact Hr
  isplitl [H7]; · iexists f7; iexact H7
  isplitl [H8]; · iexists f8; iexact H8
  iexists f9; iexact H9

theorem run_main (hg : ∀ c, Good m c) :
    θ_run defs (onTc (τ := τ) (main (F := Ideal))) (s₀ m ρ) (FramePost cfgs (dats m) 0 (V m)) :=
  Pipeline.θ_run_frame_track cfgs (dats m) (0 : Fin 1) launch0 defs₀ Variants.none m ρ main
    (hbody := fun c => (body_obligation m hg c).loose) (hshare := fun c => (dats m 0 c).share_full fun _ => rfl)
    (howed := fun _ _ => rfl) (V := V m) (hmain := hmain m Variants.none) (hA := A_eq m)
    (hin := fun c => inv_in c) (hout := fun c => inv_out c _)

end Cert.Proof.AtIdeal

end
-- ==== Proof.ValArr.lean ====
module

public import proofs.«01_k».proof.Proof.ValRun
public import Idealize.ShloMosaic.Lib.StableHlo.Run
public import Idealize.ShloMosaic.Lib.Pointwise

@[expose] public section

set_option maxRecDepth 16384

noncomputable section

namespace Cert.Proof.AtIdeal

open Cert.KernelIdeal Cert.KernelIdeal.Gen
open Idealize.ShloMosaic Idealize.ShloMosaic.TcCoe Idealize.ShloMosaic.Tactic
open Idealize.ShloMosaic.Pipeline
open Idealize.SL.Sem

variable (m : (ℓ : Loc nD τ sig) → Buf (Elt Ideal) ℓ) (ρ : Dev nD → PrngReg)

/-- The values with the columns of ones beside them. -/
def withOnes (v : S2x4x8448x128.Idx → EReal) : S2x4x8448x256.Idx → EReal :=
  concatenate S2x4x8448x256 3 [⟨S2x4x8448x128, v⟩, ⟨S2x4x8448x128, broadcastInDim S2x4x8448x128 ![] Facts₀.bcast_S_S2x4x8448x128 (constant (F := Ideal) S_ .bf16 0x3F80#16)⟩]
    Facts₀.concatenates_S2x4x8448x128_S2x4x8448x128_S2x4x8448x256_d3

theorem V_main_v1 (c : Dev nD) : V m c main_v1 = withOnes (m ((c : Thread nD τ).loc main_arg2)) := by
  show StableHlo.after hostOps0 _ (Proc.devRef .tc main_v1) = _
  after_results
  rfl

theorem withOnes_lo (v : S2x4x8448x128.Idx → EReal) (b : Fin 2) (h : Fin 4) (k : Fin 8448) (d : Fin 256) (d' : Fin 128) (hd : d'.val = d.val) :
    withOnes v (ix4 b h k d) = v (ix4 b h k d') := by
  have e : d' = ⟨d.val, hd ▸ d'.isLt⟩ := Fin.ext hd
  rw [e]
  pointwise [withOnes]
  exact dif_pos (hd ▸ d'.isLt)

theorem withOnes_hi (v : S2x4x8448x128.Idx → EReal) (b : Fin 2) (h : Fin 4) (k : Fin 8448) (d : Fin 256) (hd : 128 ≤ d.val) :
    withOnes v (ix4 b h k d) = 1 := by
  pointwise [withOnes]
  exact dif_neg (Nat.not_lt.2 hd)

theorem idx0 : ∀ t : Fin cfg0.N, win0_0.index t = ![(grid0.coords t 0).val, (grid0.coords t 1).val, (grid0.coords t 2).val, 0] := (by decide +kernel : ∀ t : Fin grid0.N, _)
theorem idx1 : ∀ t : Fin cfg0.N, win0_1.index t = ![(grid0.coords t 0).val, (grid0.coords t 1).val, 0, 0] := (by decide +kernel : ∀ t : Fin grid0.N, _)
theorem idx2 : ∀ t : Fin cfg0.N, win0_2.index t = ![(grid0.coords t 0).val, (grid0.coords t 1).val, 0, 0] := (by decide +kernel : ∀ t : Fin grid0.N, _)
theorem idx3 : ∀ t : Fin cfg0.N, win0_3.index t = ![(grid0.coords t 0).val, (grid0.coords t 2).val, (grid0.coords t 1).val] := (by decide +kernel : ∀ t : Fin grid0.N, _)

def qblk (c : Dev nD) (t : Fin cfg0.N) : S1x4x256x128.Idx → EReal := iblk m c 0 t
def kblk (c : Dev nD) (t : Fin cfg0.N) : S1x1x8448x128.Idx → EReal := iblk m c 1 t

theorem q_at (c : Dev nD) (t : Fin cfg0.N) (g : Fin 4) (r : Fin 256) (d : Fin 128) (b : Fin 2) (h : Fin 16) (s : Fin 8448)
    (hb : b.val = (grid0.coords t 0).val) (hh : h.val = (grid0.coords t 1).val * 4 + g.val) (hs : s.val = (grid0.coords t 2).val * 256 + r.val) :
    qblk m c t (ix4 0 g r d) = (m ((c : Thread nD τ).loc main_arg0) : S2x16x8448x128.Idx → EReal) (ix4 b h s d) := by
  unfold qblk
  blk_simp [iblk]
  rw [V_main_arg0]
  congr 1
  blk_ext [idx0, hb, hh, hs]

theorem k_at (c : Dev nD) (t : Fin cfg0.N) (k : Fin 8448) (d : Fin 128) (b : Fin 2) (h : Fin 4)
    (hb : b.val = (grid0.coords t 0).val) (hh : h.val = (grid0.coords t 1).val) :
    kblk m c t (ix4 0 0 k d) = (m ((c : Thread nD τ).loc main_arg1) : S2x4x8448x128.Idx → EReal) (ix4 b h k d) := by
  unfold kblk
  blk_simp [iblk]
  rw [V_main_arg1]
  congr 1
  blk_ext [idx1, hb, hh]

theorem v_at (c : Dev nD) (t : Fin cfg0.N) (k : Fin 8448) (d : Fin 256) (b : Fin 2) (h : Fin 4)
    (hb : b.val = (grid0.coords t 0).val) (hh : h.val = (grid0.coords t 1).val) :
    vblk m c t (ix4 0 0 k d) = withOnes (m ((c : Thread nD τ).loc main_arg2)) (ix4 b h k d) := by
  unfold vblk
  blk_simp [iblk]
  rw [V_main_v1]
  congr 1
  blk_ext [idx2, hb, hh]

theorem good (c : Dev nD) (hq : ∀ x, IsR ((m ((c : Thread nD τ).loc main_arg0) : S2x16x8448x128.Idx → EReal) x))
    (hk : ∀ x, IsR ((m ((c : Thread nD τ).loc main_arg1) : S2x4x8448x128.Idx → EReal) x)) : Good m c where
  q t x := by
    show IsR (V m c main_arg0 _)
    rw [V_main_arg0]; exact hq _
  k t x := by
    show IsR (V m c main_arg1 _)
    rw [V_main_arg1]; exact hk _
  v t k d := by
    rw [v_at m c t k _ ⟨(grid0.coords t 0).val, (grid0.coords t 0).isLt⟩ ⟨(grid0.coords t 1).val, (grid0.coords t 1).isLt⟩ rfl rfl]
    exact withOnes_hi _ _ _ _ _ (Nat.le_add_right _ _)

theorem keys_eq : ∀ t : Fin grid0.N, ∀ n : ℕ, n < 256 → keys (grid0.coords t 2).val = if (grid0.coords t 2).val * 256 + n < 256 then 256 else 8448 := by
  intro t n hn
  unfold keys
  by_cases h : (grid0.coords t 2).val = 0
  · rw [if_pos h, if_pos (by omega)]
  · rw [if_neg h, if_neg (by omega)]

/-- The block's averages are the attention's, at the place the block takes in the result. -/
theorem avg_at (c : Dev nD) (t : Fin cfg0.N) (y : S1x256x512.Idx) (z : S2x8448x2048.Idx)
    (h0 : (z 0).val = (grid0.coords t 0).val + (y 0).val) (h1 : (z 1).val = (grid0.coords t 2).val * 256 + (y 1).val) (h2 : (z 2).val = (grid0.coords t 1).val * 512 + (y 2).val) :
    outG (keys (grid0.coords t 2).val) (qblk m c t) (kblk m c t) (vblk m c t) y
      = attn (m ((c : Thread nD τ).loc main_arg0)) (m ((c : Thread nD τ).loc main_arg1)) (m ((c : Thread nD τ).loc main_arg2)) z := by
  have b0 : (y 0).val < 1 := (y 0).isLt
  have b1 : (y 1).val < 256 := (y 1).isLt
  have b2 : (y 2).val < 512 := (y 2).isLt
  have c2 : (z 2).val < 2048 := (z 2).isLt
  unfold outG attn
  rw [keys_eq t (y 1).val b1, ← h1]
  congr 1
  · funext k
    unfold sc qk
    refine Finset.sum_congr rfl fun d _ => ?_
    congr 1
    · exact q_at m c t _ _ d _ _ _ (by omega) (by show (z 2).val / 128 = _ + ((y 2).val / 128 * 256 + (y 1).val) / 256; omega)
        (by show (z 1).val = _ + ((y 2).val / 128 * 256 + (y 1).val) % 256; omega)
    · exact k_at m c t _ d _ _ (by omega) (by show (z 2).val / 128 / 4 = _; omega)
  · funext k
    unfold vc vv
    refine (v_at m c t _ _ (z 0) ⟨(z 2).val / 128 / 4, by omega⟩ (by omega) (by show (z 2).val / 128 / 4 = _; omega)).trans ?_
    exact withOnes_lo _ _ _ _ _ _ (by show (z 2).val % 128 = (y 2).val % 128; omega)

theorem final (c : Dev nD) : (dats m 0 c).arrAt 3 cfg0.N
    = attn (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  exact avg_at m c t y ((win0_3.blk t).view.emb y) (by blk_simp [idx3]; try omega) (by blk_simp [idx3]; try omega) (by blk_simp [idx3]; try omega)

end Cert.Proof.AtIdeal

end
-- ==== Proof.RefBase.lean ====
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

/-- A softmax to base e of scores times the logarithm of 2 has the weights of the powers of two. -/
theorem softmax_wt (n : ℕ) (σ : ℕ → EReal) (hσ : ∀ k, IsR (σ k)) (M : EReal) (hM : IsR M) (j : Fin n) (S : Fin n → EReal)
    (hS : ∀ x, S x = σ x * ((Real.log 2 : ℝ) : EReal)) :
    Ideal.div (Ideal.exp (S j - M)) (∑ x : Fin n, Ideal.exp (S x - M)) = ((wt n σ j : ℝ) : EReal) := by
  obtain ⟨r, rfl⟩ := hM
  have e : ∀ x, Ideal.exp (S x - r) = (((2 : ℝ) ^ (σ x).toReal * Real.exp (-r) : ℝ) : EReal) := by
    intro x
    rw [hS x, (hσ x).eq_toReal, ← EReal.coe_mul, ← EReal.coe_sub, Ideal.exp_coe, EReal.toReal_coe, sub_eq_add_neg, Real.exp_add,
      Real.rpow_def_of_pos two_pos, mul_comm (Real.log 2)]
  have hne : (Finset.range n).Nonempty := Finset.nonempty_range_iff.2 (by have := j.isLt; omega)
  have hT : 0 < ∑ k ∈ Finset.range n, (2 : ℝ) ^ (σ k).toReal := Finset.sum_pos (fun _ _ => Real.rpow_pos_of_pos two_pos _) hne
  have hE : 0 < Real.exp (-r) := Real.exp_pos _
  have hs : (∑ x : Fin n, Ideal.exp (S x - r)) = (((∑ k ∈ Finset.range n, (2 : ℝ) ^ (σ k).toReal) * Real.exp (-r) : ℝ) : EReal) := by
    rw [Finset.sum_mul, ← Fin.sum_univ_eq_sum_range (fun k => (2 : ℝ) ^ (σ k).toReal * Real.exp (-r)) n, coe_sum]
    exact Finset.sum_congr rfl fun x _ => e x
  rw [hs, e, Ideal.div_coe (mul_pos hT hE).ne', ← EReal.coe_mul]
  congr 1
  rw [wt]
  field_simp

/-- The scores of the context queries, times the logarithm of 2. -/
def scoresC (q : FVec Ideal S2x16x8448x128 .bf16) (k : FVec Ideal S2x4x8448x128 .bf16) : FVec Ideal S2x4x4x256x256 .f32 :=
  mulf (Host.dotGeneral dot_S2x4x4x256x128_S2x4x256x128_S2x4x4x256x256_4_3_23_2_01_01 none (shapeCast _ (extractStridedSlice S2x16x256x128 ![0, 0, 0, 0] (extf .f32 q bitsLt_bf16_f32) slices_S2x16x8448x128_S2x16x256x128_0_0_0_0) shapeCasts_S2x16x256x128_S2x4x4x256x128) (extractStridedSlice S2x4x256x128 ![0, 0, 0, 0] (extf .f32 k bitsLt_bf16_f32) slices_S2x4x8448x128_S2x4x256x128_0_0_0_0)) (broadcastInDim S2x4x4x256x256 ![] bcast_S_S2x4x4x256x256 (Host.log (constant S_ .f32 0x40000000#32)))
/-- The softmax of the context queries' scores. -/
def weightsC (S : FVec Ideal S2x4x4x256x256 .f32) : FVec Ideal S2x4x4x256x256 .f32 :=
  Host.divf (Host.exp (subf S (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (maximumf (broadcastInDim S2x4x4x256 ![] bcast_S_S2x4x4x256 (constant S_ .f32 0xFF800000#32)) (Host.reduce FloatOps.maximumf S (constant S_ .f32 0xFF800000#32) reducesTo_S2x4x4x256x256_S2x4x4x256_d4 h_S_)))))) (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (Host.reduceAdd (Host.exp (subf S (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (maximumf (broadcastInDim S2x4x4x256 ![] bcast_S_S2x4x4x256 (constant S_ .f32 0xFF800000#32)) (Host.reduce FloatOps.maximumf S (constant S_ .f32 0xFF800000#32) reducesTo_S2x4x4x256x256_S2x4x4x256_d4 h_S_)))))) (constant S_ .f32 0x00000000#32) reducesTo_S2x4x4x256x256_S2x4x4x256_d4 h_S_)))
/-- The context queries' averages, heads side by side. -/
def outC (v : FVec Ideal S2x4x8448x128 .bf16) (W : FVec Ideal S2x4x4x256x256 .f32) : FVec Ideal S2x256x2048 .f32 :=
  shapeCast _ (transpose S2x256x4x4x128 [0, 4, 1, 3, 2] (Host.dotGeneral dot_S2x4x256x128_S2x4x4x256x256_S2x4x128x4x256_2_4_3_23_01_01 none (extractStridedSlice S2x4x256x128 ![0, 0, 0, 0] (extf .f32 v bitsLt_bf16_f32) slices_S2x4x8448x128_S2x4x256x128_0_0_0_0) W) transposes_S2x4x128x4x256_S2x256x4x4x128_0_4_1_3_2) shapeCasts_S2x256x4x4x128_S2x256x2048
/-- The scores of the other queries, times the logarithm of 2. -/
def scoresR (q : FVec Ideal S2x16x8448x128 .bf16) (k : FVec Ideal S2x4x8448x128 .bf16) : FVec Ideal S2x4x4x8192x8448 .f32 :=
  mulf (Host.dotGeneral dot_S2x4x4x8192x128_S2x4x8448x128_S2x4x4x8192x8448_4_3_23_2_01_01 none (shapeCast _ (extractStridedSlice S2x16x8192x128 ![0, 0, 256, 0] (extf .f32 q bitsLt_bf16_f32) slices_S2x16x8448x128_S2x16x8192x128_0_0_256_0) shapeCasts_S2x16x8192x128_S2x4x4x8192x128) (extf .f32 k bitsLt_bf16_f32)) (broadcastInDim S2x4x4x8192x8448 ![] bcast_S_S2x4x4x8192x8448 (Host.log (constant S_ .f32 0x40000000#32)))
/-- The softmax of the other queries' scores. -/
def weightsR (S : FVec Ideal S2x4x4x8192x8448 .f32) : FVec Ideal S2x4x4x8192x8448 .f32 :=
  Host.divf (Host.exp (subf S (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 (maximumf (broadcastInDim S2x4x4x8192 ![] bcast_S_S2x4x4x8192 (constant S_ .f32 0xFF800000#32)) (Host.reduce FloatOps.maximumf S (constant S_ .f32 0xFF800000#32) reducesTo_S2x4x4x8192x8448_S2x4x4x8192_d4 h_S_)))))) (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 (Host.reduceAdd (Host.exp (subf S (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 (maximumf (broadcastInDim S2x4x4x8192 ![] bcast_S_S2x4x4x8192 (constant S_ .f32 0xFF800000#32)) (Host.reduce FloatOps.maximumf S (constant S_ .f32 0xFF800000#32) reducesTo_S2x4x4x8192x8448_S2x4x4x8192_d4 h_S_)))))) (constant S_ .f32 0x00000000#32) reducesTo_S2x4x4x8192x8448_S2x4x4x8192_d4 h_S_)))
/-- The other queries' averages, heads side by side. -/
def outR (v : FVec Ideal S2x4x8448x128 .bf16) (W : FVec Ideal S2x4x4x8192x8448 .f32) : FVec Ideal S2x8192x2048 .f32 :=
  shapeCast _ (transpose S2x8192x4x4x128 [0, 4, 1, 3, 2] (Host.dotGeneral dot_S2x4x8448x128_S2x4x4x8192x8448_S2x4x128x4x8192_2_4_3_23_01_01 none (extf .f32 v bitsLt_bf16_f32) W) transposes_S2x4x128x4x8192_S2x8192x4x4x128_0_4_1_3_2) shapeCasts_S2x8192x4x4x128_S2x8192x2048
/-- The reference's result, in the parts above. -/
def refOut (q : FVec Ideal S2x16x8448x128 .bf16) (k : FVec Ideal S2x4x8448x128 .bf16) (v : FVec Ideal S2x4x8448x128 .bf16) : FVec Ideal S2x8448x2048 .bf16 :=
  truncf .bf16 (concatenate S2x8448x2048 1 [⟨S2x256x2048, outC v (weightsC (scoresC q k))⟩, ⟨S2x8192x2048, outR v (weightsR (scoresR q k))⟩] concatenates_S2x256x2048_S2x8192x2048_S2x8448x2048_d1) bitsLt_bf16_f32

/-- The largest entry of a row of reals, whatever the extents, is real. -/
theorem max_row {n0 n1 n2 n3 n4 : ℕ} {t u : Shape} (S : (⟨5, ![n0, n1, n2, n3, n4]⟩ : Shape).Idx → EReal) (init : u.Idx → EReal)
    (h : (⟨5, ![n0, n1, n2, n3, n4]⟩ : Shape).ReducesTo [4] t) (hu : 0 < u.numel) (j : t.Idx) (b : Fin n0) (c : Fin n1) (d : Fin n2) (e : Fin n3)
    (hb : (j ⟨0, h.lt_r5_a4_0⟩).val = b.val) (hc : (j ⟨1, h.lt_r5_a4_1⟩).val = c.val) (hd : (j ⟨2, h.lt_r5_a4_2⟩).val = d.val) (he : (j ⟨3, h.lt_r5_a4_3⟩).val = e.val)
    (hi : ∀ x, init x = ⊥) (hn : 0 < n4) (hS : ∀ x : Fin n4, IsR (S (ix5 b c d e x))) :
    IsR (Host.reduce (FloatOps.maximumf (F := Ideal) (φ := .f32)) S init h hu j) := by
  rw [Ideal.maximumf_eq_max, Host.reduce_eq_fold, Shape.ReducesTo.fold_fiber_r5_a4, hi]
  simp only [hb, hc, hd, he]
  exact IsR.fold_max _ _ hS ⟨⟨0, hn⟩, Finset.mem_univ _⟩

theorem max_isR {s : Shape} (A M : FVec Ideal s .f32) (y : s.Idx) (hA : A y = ⊥) (hM : IsR (M y)) : IsR (maximumf A M y) := by
  show IsR (max (A y) (M y))
  rw [hA]; exact IsR.bot_max hM

end Cert.Proof.Ref

end
-- ==== Proof.RefCtx.lean ====
module

public import proofs.«01_k».proof.Proof.RefBase
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe

theorem scoresC_at (q : FVec Ideal S2x16x8448x128 .bf16) (k : FVec Ideal S2x4x8448x128 .bf16) (b : Fin 2) (h g : Fin 4) (t : Fin 256) (j : Fin 256) :
    scoresC q k (ix5 b h g t j) = qk q k b ⟨h * 4 + g, by omega⟩ ⟨t.val, by omega⟩ j * ((Real.log 2 : ℝ) : EReal) := by
  pointwise [scoresC]
  rw [log_two, qk]
  congr 1
  refine Finset.sum_congr rfl fun d _ => ?_
  have e1 : (⟨(h.val * 4 + g.val) / 4, by omega⟩ : Fin 4) = h := Fin.ext (by show (h.val * 4 + g.val) / 4 = h.val; omega)
  have e2 : (⟨j.val % 8448, by omega⟩ : Fin 8448) = ⟨j.val, by omega⟩ := Fin.ext (by show j.val % 8448 = j.val; omega)
  rw [e1, e2]

theorem maxC_isR (S : FVec Ideal S2x4x4x256x256 .f32) (b : Fin 2) (h g : Fin 4) (t : Fin 256) (hS : ∀ x : Fin 256, IsR (S (ix5 b h g t x))) :
    IsR (maximumf (broadcastInDim S2x4x4x256 ![] bcast_S_S2x4x4x256 (constant (F := Ideal) S_ .f32 0xFF800000#32)) (Host.reduce FloatOps.maximumf S (constant S_ .f32 0xFF800000#32) reducesTo_S2x4x4x256x256_S2x4x4x256_d4 h_S_) (ix4 b h g t)) :=
  max_isR _ _ _ ofBits_negInf (max_row S (constant (F := Ideal) S_ .f32 0xFF800000#32) reducesTo_S2x4x4x256x256_S2x4x4x256_d4 h_S_ (ix4 b h g t) b h g t rfl rfl rfl rfl (fun _ => ofBits_negInf) (by omega) hS)

theorem expC_at (S : FVec Ideal S2x4x4x256x256 .f32) (M : FVec Ideal S2x4x4x256 .f32) (b : Fin 2) (h g : Fin 4) (t : Fin 256) (j : Fin 256) :
    Host.exp (subf S (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 M))) (ix5 b h g t j)
      = Ideal.exp (S (ix5 b h g t j) - M (ix4 b h g t)) := by
  pointwise

theorem divC_at (E : FVec Ideal S2x4x4x256x256 .f32) (b : Fin 2) (h g : Fin 4) (t : Fin 256) (j : Fin 256) :
    Host.divf E (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (Host.reduceAdd E (constant S_ .f32 0x00000000#32) reducesTo_S2x4x4x256x256_S2x4x4x256_d4 h_S_))) (ix5 b h g t j)
      = Ideal.div (E (ix5 b h g t j)) (∑ x : Fin 256, E (ix5 b h g t x)) := by
  pointwise

theorem weightsC_at (q : FVec Ideal S2x16x8448x128 .bf16) (k : FVec Ideal S2x4x8448x128 .bf16) (hq : ∀ x, IsR (q x)) (hk : ∀ x, IsR (k x))
    (b : Fin 2) (h g : Fin 4) (t : Fin 256) (j : Fin 256) :
    weightsC (scoresC q k) (ix5 b h g t j) = ((wt 256 (qk q k b ⟨h * 4 + g, by omega⟩ ⟨t.val, by omega⟩) j : ℝ) : EReal) := by
  have hS := scoresC_at q k b h g t
  have hσ := qk_isR hq hk b ⟨h * 4 + g, by omega⟩ ⟨t.val, by omega⟩
  generalize scoresC q k = S at hS
  have hM := maxC_isR S b h g t fun x => by rw [hS]; exact (hσ _).mul (IsR.coe _)
  unfold weightsC
  generalize maximumf (broadcastInDim S2x4x4x256 ![] bcast_S_S2x4x4x256 (constant (F := Ideal) S_ .f32 0xFF800000#32)) (Host.reduce FloatOps.maximumf S (constant S_ .f32 0xFF800000#32) reducesTo_S2x4x4x256x256_S2x4x4x256_d4 h_S_) = M at hM
  have hs := expC_at S M b h g t
  generalize M (ix4 b h g t) = r at hM hs
  rw [divC_at]
  generalize Host.exp (subf S (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 M))) = E at hs
  rw [hs j, Finset.sum_congr rfl fun x _ => hs x]
  exact softmax_wt 256 _ hσ r hM j (fun x => S (ix5 b h g t x)) hS

theorem outC_at (v : FVec Ideal S2x4x8448x128 .bf16) (W : FVec Ideal S2x4x4x256x256 .f32) (b : Fin 2) (t : Fin 256) (y : Fin 2048) :
    outC v W (ix3 b t y) = ∑ x : Fin 256, vv v b ⟨y / 128, by omega⟩ ⟨y % 128, by omega⟩ x * W (ix5 b ⟨y / 512, by omega⟩ ⟨y / 128 % 4, by omega⟩ t x) := by
  pointwise [outC]
  refine Finset.sum_congr rfl fun x _ => ?_
  have e1 : (⟨y.val / 128 / 4, by omega⟩ : Fin 4) = ⟨y.val / 512, by omega⟩ := Fin.ext (by show y.val / 128 / 4 = y.val / 512; omega)
  have e2 : (⟨x.val % 8448, by omega⟩ : Fin 8448) = ⟨x.val, by omega⟩ := Fin.ext (by show x.val % 8448 = x.val; omega)
  rw [vv, e1, e2]

theorem avgC (q : FVec Ideal S2x16x8448x128 .bf16) (k v : FVec Ideal S2x4x8448x128 .bf16) (hq : ∀ x, IsR (q x)) (hk : ∀ x, IsR (k x))
    (b : Fin 2) (t : Fin 256) (y : Fin 2048) :
    outC v (weightsC (scoresC q k)) (ix3 b t y) = avg 256 (qk q k b ⟨y / 128, by omega⟩ ⟨t.val, by omega⟩) (vv v b ⟨y / 128, by omega⟩ ⟨y % 128, by omega⟩) := by
  have e : (⟨y.val / 512 * 4 + y.val / 128 % 4, by omega⟩ : Fin 16) = ⟨y.val / 128, by omega⟩ := Fin.ext (by show y.val / 512 * 4 + y.val / 128 % 4 = y.val / 128; omega)
  rw [outC_at, avg, ← Fin.sum_univ_eq_sum_range (fun j => (wt 256 (qk q k b ⟨y / 128, by omega⟩ ⟨t.val, by omega⟩) j : EReal) * vv v b ⟨y / 128, by omega⟩ ⟨y % 128, by omega⟩ j) 256]
  refine Finset.sum_congr rfl fun x _ => ?_
  rw [weightsC_at q k hq hk, mul_comm]
  congr 3
  rw [← e]

end Cert.Proof.Ref

end
-- ==== Proof.RefRest.lean ====
module

public import proofs.«01_k».proof.Proof.RefBase
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe

theorem scoresR_at (q : FVec Ideal S2x16x8448x128 .bf16) (k : FVec Ideal S2x4x8448x128 .bf16) (b : Fin 2) (h g : Fin 4) (t : Fin 8192) (j : Fin 8448) :
    scoresR q k (ix5 b h g t j) = qk q k b ⟨h * 4 + g, by omega⟩ ⟨256 + t.val, by omega⟩ j * ((Real.log 2 : ℝ) : EReal) := by
  pointwise [scoresR]
  rw [log_two, qk]
  congr 1
  refine Finset.sum_congr rfl fun d _ => ?_
  have e1 : (⟨(h.val * 4 + g.val) / 4, by omega⟩ : Fin 4) = h := Fin.ext (by show (h.val * 4 + g.val) / 4 = h.val; omega)
  have e2 : (⟨j.val % 8448, by omega⟩ : Fin 8448) = j := Fin.ext (by show j.val % 8448 = j.val; omega)
  rw [e1, e2]

theorem maxR_isR (S : FVec Ideal S2x4x4x8192x8448 .f32) (b : Fin 2) (h g : Fin 4) (t : Fin 8192) (hS : ∀ x : Fin 8448, IsR (S (ix5 b h g t x))) :
    IsR (maximumf (broadcastInDim S2x4x4x8192 ![] bcast_S_S2x4x4x8192 (constant (F := Ideal) S_ .f32 0xFF800000#32)) (Host.reduce FloatOps.maximumf S (constant S_ .f32 0xFF800000#32) reducesTo_S2x4x4x8192x8448_S2x4x4x8192_d4 h_S_) (ix4 b h g t)) :=
  max_isR _ _ _ ofBits_negInf (max_row S (constant (F := Ideal) S_ .f32 0xFF800000#32) reducesTo_S2x4x4x8192x8448_S2x4x4x8192_d4 h_S_ (ix4 b h g t) b h g t rfl rfl rfl rfl (fun _ => ofBits_negInf) (by omega) hS)

theorem expR_at (S : FVec Ideal S2x4x4x8192x8448 .f32) (M : FVec Ideal S2x4x4x8192 .f32) (b : Fin 2) (h g : Fin 4) (t : Fin 8192) (j : Fin 8448) :
    Host.exp (subf S (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 M))) (ix5 b h g t j)
      = Ideal.exp (S (ix5 b h g t j) - M (ix4 b h g t)) := by
  pointwise

theorem divR_at (E : FVec Ideal S2x4x4x8192x8448 .f32) (b : Fin 2) (h g : Fin 4) (t : Fin 8192) (j : Fin 8448) :
    Host.divf E (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 (Host.reduceAdd E (constant S_ .f32 0x00000000#32) reducesTo_S2x4x4x8192x8448_S2x4x4x8192_d4 h_S_))) (ix5 b h g t j)
      = Ideal.div (E (ix5 b h g t j)) (∑ x : Fin 8448, E (ix5 b h g t x)) := by
  pointwise

theorem weightsR_at (q : FVec Ideal S2x16x8448x128 .bf16) (k : FVec Ideal S2x4x8448x128 .bf16) (hq : ∀ x, IsR (q x)) (hk : ∀ x, IsR (k x))
    (b : Fin 2) (h g : Fin 4) (t : Fin 8192) (j : Fin 8448) :
    weightsR (scoresR q k) (ix5 b h g t j) = ((wt 8448 (qk q k b ⟨h * 4 + g, by omega⟩ ⟨256 + t.val, by omega⟩) j : ℝ) : EReal) := by
  have hS := scoresR_at q k b h g t
  have hσ := qk_isR hq hk b ⟨h * 4 + g, by omega⟩ ⟨256 + t.val, by omega⟩
  generalize scoresR q k = S at hS
  have hM := maxR_isR S b h g t fun x => by rw [hS]; exact (hσ _).mul (IsR.coe _)
  unfold weightsR
  generalize maximumf (broadcastInDim S2x4x4x8192 ![] bcast_S_S2x4x4x8192 (constant (F := Ideal) S_ .f32 0xFF800000#32)) (Host.reduce FloatOps.maximumf S (constant S_ .f32 0xFF800000#32) reducesTo_S2x4x4x8192x8448_S2x4x4x8192_d4 h_S_) = M at hM
  have hs := expR_at S M b h g t
  generalize M (ix4 b h g t) = r at hM hs
  rw [divR_at]
  generalize Host.exp (subf S (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 M))) = E at hs
  rw [hs j, Finset.sum_congr rfl fun x _ => hs x]
  exact softmax_wt 8448 _ hσ r hM j (fun x => S (ix5 b h g t x)) hS

theorem outR_at (v : FVec Ideal S2x4x8448x128 .bf16) (W : FVec Ideal S2x4x4x8192x8448 .f32) (b : Fin 2) (t : Fin 8192) (y : Fin 2048) :
    outR v W (ix3 b t y) = ∑ x : Fin 8448, vv v b ⟨y / 128, by omega⟩ ⟨y % 128, by omega⟩ x * W (ix5 b ⟨y / 512, by omega⟩ ⟨y / 128 % 4, by omega⟩ t x) := by
  pointwise [outR]
  refine Finset.sum_congr rfl fun x _ => ?_
  have e1 : (⟨y.val / 128 / 4, by omega⟩ : Fin 4) = ⟨y.val / 512, by omega⟩ := Fin.ext (by show y.val / 128 / 4 = y.val / 512; omega)
  have e2 : (⟨x.val % 8448, by omega⟩ : Fin 8448) = x := Fin.ext (by show x.val % 8448 = x.val; omega)
  rw [vv, e1, e2]

theorem avgR (q : FVec Ideal S2x16x8448x128 .bf16) (k v : FVec Ideal S2x4x8448x128 .bf16) (hq : ∀ x, IsR (q x)) (hk : ∀ x, IsR (k x))
    (b : Fin 2) (t : Fin 8192) (y : Fin 2048) :
    outR v (weightsR (scoresR q k)) (ix3 b t y) = avg 8448 (qk q k b ⟨y / 128, by omega⟩ ⟨256 + t.val, by omega⟩) (vv v b ⟨y / 128, by omega⟩ ⟨y % 128, by omega⟩) := by
  have e : (⟨y.val / 512 * 4 + y.val / 128 % 4, by omega⟩ : Fin 16) = ⟨y.val / 128, by omega⟩ := Fin.ext (by show y.val / 512 * 4 + y.val / 128 % 4 = y.val / 128; omega)
  rw [outR_at, avg, ← Fin.sum_univ_eq_sum_range (fun j => (wt 8448 (qk q k b ⟨y / 128, by omega⟩ ⟨256 + t.val, by omega⟩) j : EReal) * vv v b ⟨y / 128, by omega⟩ ⟨y % 128, by omega⟩ j) 8448]
  refine Finset.sum_congr rfl fun x _ => ?_
  rw [weightsR_at q k hq hk, mul_comm]
  congr 3
  rw [← e]

end Cert.Proof.Ref

end
-- ==== Proof.RefVal.lean ====
module

public import proofs.«01_k».proof.Proof.RefCtx
public import proofs.«01_k».proof.Proof.RefRest
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe

/-- The reference computes the attention. -/
theorem refOut_eq (q : FVec Ideal S2x16x8448x128 .bf16) (k v : FVec Ideal S2x4x8448x128 .bf16) (hq : ∀ x, IsR (q x)) (hk : ∀ x, IsR (k x)) :
    refOut q k v = attn q k v := by
  funext y
  idx_vars y
  pointwise [refOut]
  by_cases h : y1.val < 256
  · rw [dif_pos h, avgC q k v hq hk]
    show _ = avg (if y1.val < 256 then 256 else 8448) _ _
    rw [if_pos h]
    rfl
  · rw [dif_neg h, avgR q k v hq hk]
    show _ = avg (if y1.val < 256 then 256 else 8448) _ _
    rw [if_neg h]
    have e : (⟨256 + (y1.val - 256), by omega⟩ : Fin 8448) = y1 := Fin.ext (by show 256 + (y1.val - 256) = y1.val; omega)
    rw [e]
    rfl

/-- The printed result in these parts. -/
theorem res_eq (m : (ℓ : Loc nD τ sig) → Buf (Elt Ideal) ℓ) (c : Dev nD) : Value.res_main_v46 m c = refOut (m ((c.tc : Thread nD τ).loc main_arg0)) (m ((c.tc : Thread nD τ).loc main_arg1)) (m ((c.tc : Thread nD τ).loc main_arg2)) := rfl

end Cert.Proof.Ref

end
-- ==== Proof.Alg.lean ====
module

public import proofs.«01_k».proof.Defs
public import proofs.«01_k».proof.Proof.Gen.Pre_finite
public import proofs.«01_k».proof.Proof.ValArr
public import proofs.«01_k».proof.Proof.RefVal

@[expose] public section

set_option maxRecDepth 16384

noncomputable section

namespace Cert.Proof

open Cert.KernelIdeal Cert.KernelIdeal.Gen
open Idealize.ShloMosaic Idealize.ShloMosaic.TcCoe
open Idealize.SL.Sem

/-- Smaller in absolute value than infinity: a real number. -/
theorem isR_of_lt {x : EReal} (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  have hl : max x (-x) < ⊤ := by
    by_contra hn
    simp [Ideal.cmp, hn] at h
  induction x with
  | bot => simp at hl
  | top => simp at hl
  | coe r => exact ⟨r, rfl⟩

theorem pre_q (a0 : FVec Ideal S2x16x8448x128 .bf16) (a1 : FVec Ideal S2x4x8448x128 .bf16) (a2 : FVec Ideal S2x4x8448x128 .bf16)
    (h : ∀ x, (Cert.Pre_finite.fn a0 a1 a2).1 x = 1#1) (x : S2x16x8448x128.Idx) : IsR (a0 x) := isR_of_lt (h x)

theorem pre_k (a0 : FVec Ideal S2x16x8448x128 .bf16) (a1 : FVec Ideal S2x4x8448x128 .bf16) (a2 : FVec Ideal S2x4x8448x128 .bf16)
    (h : ∀ x, (Cert.Pre_finite.fn a0 a1 a2).2 x = 1#1) (x : S2x4x8448x128.Idx) : IsR (a1 x) := isR_of_lt (h x)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hq : ∀ (c : Dev nD) x, IsR ((m ((c.tc : Thread nD τ).loc main_arg0) : S2x16x8448x128.Idx → EReal) x) := fun c => pre_q _ _ _ fun x => congrFun (hpre c).1 x
  have hk : ∀ (c : Dev nD) x, IsR ((m ((c.tc : Thread nD τ).loc main_arg1) : S2x4x8448x128.Idx → EReal) x) := fun c => pre_k _ _ _ fun x => congrFun (hpre c).2 x
  refine ⟨fun c => attn (m ((c.tc : Thread nD τ).loc main_arg0)) (m ((c.tc : Thread nD τ).loc main_arg1)) (m ((c.tc : Thread nD τ).loc main_arg2)), ?_, ?_⟩
  · have hrun := AtIdeal.run_main m g fun c => AtIdeal.good m c (hq c) (hk c)
    refine (θ_run defs _ _).mono (fun r h c => ⟨((h c).1 3).trans (AtIdeal.final m c), ?_, ?_, ?_⟩) hrun
    · exact ((h c).1 0).trans (((AtIdeal.dats m 0 c).arrAt_in 0 rfl _).trans ((AtIdeal.A_eq m c 0).trans (V_main_arg0 m c)))
    · exact ((h c).1 1).trans (((AtIdeal.dats m 0 c).arrAt_in 1 rfl _).trans ((AtIdeal.A_eq m c 1).trans (V_main_arg1 m c)))
    · exact ((h c).2 main_arg2 (Pipeline.mem_restRefs_of main_arg2 (by decide) (by decide))).trans (V_main_arg2 m c)
  · refine (θ_run Cert.ReferenceIdeal.defs _ _).mono (fun r h c => ⟨(h c).1.trans ?_, (h c).2⟩) (Cert.ReferenceIdeal.Value.run (F := Ideal) m' g')
    rw [Ref.res_eq, (hargs c).1, (hargs c).2.1, (hargs c).2.2]
    exact Ref.refOut_eq _ _ _ (hq c) (hk c)

end Cert.Proof

end
-- ==== Proof.InRun.lean ====
module

public import proofs.«01_k».proof.Proof.Gen.InProjIdeal
public import proofs.«01_k».proof.Proof.Gen.InProjIdeal.Skeleton
public import proofs.«01_k».proof.Proof.Gen.InProjIdeal.Frame
public import Idealize.ShloMosaic.Lib.Pipeline.ReadBack

@[expose] public section

set_option maxRecDepth 16384

noncomputable section

namespace Cert.Proof.InP

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A staging or scratch buffer held whole at the contents `f`. -/
abbrev own (c : Dev nD) {s : Shape} {e : EltTy} (M : Memref sig .tc .vmem s e) (f : BufTy.Contents (Elt F) M.view.ty) : sProp 𝕄 :=
  iprop(M.view.loc (c : Thread nD τ) ↦[M.view.set]{fullShare} f)

/-- The bit by which a step fills the weight tile from the columns before the gates. -/
abbrev bitLo (i : grid0.Coords) : BitVec 1 :=
  Scalar.cmpi .ne (Scalar.extui (Scalar.andi (Scalar.cmpi .eq (BitVec.ofNat 32 (i 1).val) 0#32) (Scalar.cmpi .slt (BitVec.ofNat 32 (i 0).val) 4#32))) 0#32

/-- The bit by which a step fills it from the columns behind the gates. -/
abbrev bitHi (i : grid0.Coords) : BitVec 1 :=
  Scalar.cmpi .ne (Scalar.extui (Scalar.andi (Scalar.cmpi .eq (BitVec.ofNat 32 (i 1).val) 0#32) (Scalar.cmpi .sge (BitVec.ofNat 32 (i 0).val) 4#32))) 0#32

theorem bitLo_iff : ∀ (j : Fin 12) (i : Fin 32), (Scalar.cmpi .ne (Scalar.extui (Scalar.andi (Scalar.cmpi .eq (BitVec.ofNat 32 i.val) 0#32) (Scalar.cmpi .slt (BitVec.ofNat 32 j.val) 4#32))) 0#32 = 1#1 ↔ i.val = 0 ∧ j.val < 4) := by
  decide +kernel

theorem bitHi_iff : ∀ (j : Fin 12) (i : Fin 32), (Scalar.cmpi .ne (Scalar.extui (Scalar.andi (Scalar.cmpi .eq (BitVec.ofNat 32 i.val) 0#32) (Scalar.cmpi .sge (BitVec.ofNat 32 j.val) 4#32))) 0#32 = 1#1 ↔ i.val = 0 ∧ 4 ≤ j.val) := by
  decide +kernel

variable (c : Dev nD) (i : grid0.Coords) (a2 : Memref sig .tc .vmem S528x4096 .bf16) (h2 : a2.IsWhole) (a3 : Memref sig .tc .vmem S1x1024x4096 .f32) (h3 : a3.IsWhole)
    (a4 : Memref sig .tc .vmem S1x128x4096 .f32) (h4 : a4.IsWhole) (a5 : Memref sig .tc .vmem S528x1024 .f32) (h5 : a5.IsWhole)
    (a6 : Memref sig .tc .vmem S1024x4096 .bf16) (h6 : a6.IsWhole)
    (X2 : BufTy.Contents (Elt F) a2.view.ty) (X3 : BufTy.Contents (Elt F) a3.view.ty) (X4 : BufTy.Contents (Elt F) a4.view.ty)
    (f6 : BufTy.Contents (Elt F) a6.view.ty)

/-- A step that fills the tile from the columns before the gates. -/
def runLo (hc1 : bitLo i = 1#1) (hc2 : ¬ bitHi i = 1#1) :
    Σ' (G5 : (BufTy.Contents (Elt F) a5.view.ty) → BufTy.Contents (Elt F) a5.view.ty), { G6 : BufTy.Contents (Elt F) a6.view.ty // ∀ (E : Set ℕ) f5,
      iprop(own c a2 X2 ∗ own c a3 X3 ∗ own c a4 X4 ∗ own c a5 f5 ∗ own c a6 f6)
      ⊢ wp frame (wpE (defs₀ (F := F)) Variants.none (c : Thread nD τ) none) E (cc0_in_projection (F := F) i a2 h2 a3 h3 a4 h4 a5 h5 a6 h6)
          (fun _ => iprop(own c a2 X2 ∗ own c a3 X3 ∗ own c a4 X4 ∗ own c a5 (G5 f5) ∗ own c a6 G6)) } := by
  refine ⟨?_, ?_, fun E f5 => ?run⟩
  case run =>
    iintro ⟨H2, H3, H4, H5, H6⟩
    sl_unfold [Cert.InProjIdeal.cc0_in_projection]
    sl_exec (disch := first | sl_exact hc1 | sl_exact hc2)
    sl_step
    sl_close

/-- A step that fills it from the columns behind the gates. -/
def runHi (hc1 : ¬ bitLo i = 1#1) (hc2 : bitHi i = 1#1) :
    Σ' (G5 : (BufTy.Contents (Elt F) a5.view.ty) → BufTy.Contents (Elt F) a5.view.ty), { G6 : BufTy.Contents (Elt F) a6.view.ty // ∀ (E : Set ℕ) f5,
      iprop(own c a2 X2 ∗ own c a3 X3 ∗ own c a4 X4 ∗ own c a5 f5 ∗ own c a6 f6)
      ⊢ wp frame (wpE (defs₀ (F := F)) Variants.none (c : Thread nD τ) none) E (cc0_in_projection (F := F) i a2 h2 a3 h3 a4 h4 a5 h5 a6 h6)
          (fun _ => iprop(own c a2 X2 ∗ own c a3 X3 ∗ own c a4 X4 ∗ own c a5 (G5 f5) ∗ own c a6 G6)) } := by
  refine ⟨?_, ?_, fun E f5 => ?run⟩
  case run =>
    iintro ⟨H2, H3, H4, H5, H6⟩
    sl_unfold [Cert.InProjIdeal.cc0_in_projection]
    sl_exec (disch := first | sl_exact hc1 | sl_exact hc2)
    sl_step
    sl_close

/-- A step that finds the tile filled. -/
def runKeep (hc1 : ¬ bitLo i = 1#1) (hc2 : ¬ bitHi i = 1#1) :
    { G5 : (BufTy.Contents (Elt F) a5.view.ty) → BufTy.Contents (Elt F) a5.view.ty // ∀ (E : Set ℕ) f5,
      iprop(own c a2 X2 ∗ own c a3 X3 ∗ own c a4 X4 ∗ own c a5 f5 ∗ own c a6 f6)
      ⊢ wp frame (wpE (defs₀ (F := F)) Variants.none (c : Thread nD τ) none) E (cc0_in_projection (F := F) i a2 h2 a3 h3 a4 h4 a5 h5 a6 h6)
          (fun _ => iprop(own c a2 X2 ∗ own c a3 X3 ∗ own c a4 X4 ∗ own c a5 (G5 f5) ∗ own c a6 f6)) } := by
  refine ⟨?_, fun E f5 => ?run⟩
  case run =>
    iintro ⟨H2, H3, H4, H5, H6⟩
    sl_unfold [Cert.InProjIdeal.cc0_in_projection]
    sl_exec (disch := first | sl_exact hc1 | sl_exact hc2)
    sl_step
    sl_close

end Cert.Proof.InP

end
-- ==== Proof.InBody.lean ====
module

public import proofs.«01_k».proof.Proof.InRun
public import Idealize.ShloMosaic.Lib.VecWindow

@[expose] public section

set_option maxRecDepth 16384

noncomputable section

namespace Cert.Proof.InP

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (a2 : Memref sig .tc .vmem S528x4096 .bf16) (h2 : a2.IsWhole) (a3 : Memref sig .tc .vmem S1x1024x4096 .f32) (h3 : a3.IsWhole)
    (a4 : Memref sig .tc .vmem S1x128x4096 .f32) (h4 : a4.IsWhole) (a5 : Memref sig .tc .vmem S528x1024 .f32) (h5 : a5.IsWhole)
    (a6 : Memref sig .tc .vmem S1024x4096 .bf16) (h6 : a6.IsWhole)
    (X2 : BufTy.Contents (Elt F) a2.view.ty) (X3 : BufTy.Contents (Elt F) a3.view.ty) (X4 : BufTy.Contents (Elt F) a4.view.ty)
    (f6 : BufTy.Contents (Elt F) a6.view.ty)

theorem lo_tile (hc1 : bitLo i = 1#1) (hc2 : ¬ bitHi i = 1#1) :
    a6.view.read (Elt F) (runLo c i a2 h2 a3 h3 a4 h4 a5 h5 a6 h6 X2 X3 X4 f6 hc1 hc2).2.1 = k0_pay1 (a3.view.read (Elt F) X3) := by
  unfold runLo
  dsimp only
  unfold runLo.sl.H6_1
  refine (View.read_writes_full a6.view _ inb_S1024x4096_S1024x4096_0_0 _ _).trans ?_
  rw [View.readAt_full a3.view X3 inb_S1x1024x4096_S1x1024x4096_0_0_0]

theorem lo_out (hc1 : bitLo i = 1#1) (hc2 : ¬ bitHi i = 1#1) (f5 : BufTy.Contents (Elt F) a5.view.ty) :
    a5.view.read (Elt F) ((runLo c i a2 h2 a3 h3 a4 h4 a5 h5 a6 h6 X2 X3 X4 f6 hc1 hc2).1 f5) = k0_pay3 (a2.view.read (Elt F) X2) (k0_pay1 (a3.view.read (Elt F) X3)) := by
  unfold runLo
  dsimp only
  refine (View.read_writes_full a5.view _ inb_S528x1024_S528x1024_0_0 _ _).trans ?_
  unfold runLo.sl.v10 runLo.sl.H6_1
  rw [View.readAt_full a3.view X3 inb_S1x1024x4096_S1x1024x4096_0_0_0, View.readAt_full a2.view X2 inb_S528x4096_S528x4096_0_0]
  exact congrArg _ (View.readCov_full a6.view inb_S1024x4096_S1024x4096_0_0 inb_S1024x4096_S1024x4096_0_0 _ _)

theorem hi_tile (hc1 : ¬ bitLo i = 1#1) (hc2 : bitHi i = 1#1) :
    a6.view.read (Elt F) (runHi c i a2 h2 a3 h3 a4 h4 a5 h5 a6 h6 X2 X3 X4 f6 hc1 hc2).2.1 = k0_pay2 (a3.view.read (Elt F) X3) (a4.view.read (Elt F) X4) := by
  unfold runHi
  dsimp only
  unfold runHi.sl.H6_1
  refine (View.read_writes_full a6.view _ inb_S1024x4096_S1024x4096_0_0 _ _).trans ?_
  rw [View.readAt_full a3.view X3 inb_S1x1024x4096_S1x1024x4096_0_0_0, View.readAt_full a4.view X4 inb_S1x128x4096_S1x128x4096_0_0_0]

theorem hi_out (hc1 : ¬ bitLo i = 1#1) (hc2 : bitHi i = 1#1) (f5 : BufTy.Contents (Elt F) a5.view.ty) :
    a5.view.read (Elt F) ((runHi c i a2 h2 a3 h3 a4 h4 a5 h5 a6 h6 X2 X3 X4 f6 hc1 hc2).1 f5)
      = k0_pay3 (a2.view.read (Elt F) X2) (k0_pay2 (a3.view.read (Elt F) X3) (a4.view.read (Elt F) X4)) := by
  unfold runHi
  dsimp only
  refine (View.read_writes_full a5.view _ inb_S528x1024_S528x1024_0_0 _ _).trans ?_
  unfold runHi.sl.v10 runHi.sl.H6_1
  rw [View.readAt_full a3.view X3 inb_S1x1024x4096_S1x1024x4096_0_0_0, View.readAt_full a4.view X4 inb_S1x128x4096_S1x128x4096_0_0_0,
    View.readAt_full a2.view X2 inb_S528x4096_S528x4096_0_0]
  exact congrArg _ (View.readCov_full a6.view inb_S1024x4096_S1024x4096_0_0 inb_S1024x4096_S1024x4096_0_0 _ _)

theorem keep_out (hc1 : ¬ bitLo i = 1#1) (hc2 : ¬ bitHi i = 1#1) (f5 : BufTy.Contents (Elt F) a5.view.ty) :
    a5.view.read (Elt F) ((runKeep c i a2 h2 a3 h3 a4 h4 a5 h5 a6 h6 X2 X3 X4 f6 hc1 hc2).1 f5) = k0_pay3 (a2.view.read (Elt F) X2) (a6.view.read (Elt F) f6) := by
  unfold runKeep
  dsimp only
  refine (View.read_writes_full a5.view _ inb_S528x1024_S528x1024_0_0 _ _).trans ?_
  rw [View.readAt_full a2.view X2 inb_S528x4096_S528x4096_0_0, View.readAt_full a6.view f6 inb_S1024x4096_S1024x4096_0_0]

/-- The body at any point, told which weight tile the scratch holds after it. -/
theorem body_tile (T : S1024x4096.Idx → Elt F .bf16)
    (hlo : (i 1).val = 0 → (i 0).val < 4 → k0_pay1 (a3.view.read (Elt F) X3) = T)
    (hhi : (i 1).val = 0 → 4 ≤ (i 0).val → k0_pay2 (a3.view.read (Elt F) X3) (a4.view.read (Elt F) X4) = T)
    (hkeep : (i 1).val ≠ 0 → a6.view.read (Elt F) f6 = T) (f5 : BufTy.Contents (Elt F) a5.view.ty) :
    iprop(own c a2 X2 ∗ own c a3 X3 ∗ own c a4 X4 ∗ own c a5 f5 ∗ own c a6 f6)
      ⊢ wp frame (wpE (defs₀ (F := F)) Variants.none (c : Thread nD τ) none) Set.univ (cc0_in_projection (F := F) i a2 h2 a3 h3 a4 h4 a5 h5 a6 h6)
          (fun _ => iprop(own c a2 X2 ∗ own c a3 X3 ∗ own c a4 X4
            ∗ (∃ f, ⌜a5.view.read (Elt F) f = k0_pay3 (a2.view.read (Elt F) X2) T⌝ ∗ own c a5 f)
            ∗ (∃ f, ⌜a6.view.read (Elt F) f = T⌝ ∗ own c a6 f))) := by
  have post : ∀ g5 g6, a5.view.read (Elt F) g5 = k0_pay3 (a2.view.read (Elt F) X2) T → a6.view.read (Elt F) g6 = T →
      ((iprop(own c a2 X2 ∗ own c a3 X3 ∗ own c a4 X4 ∗ own c a5 g5 ∗ own c a6 g6) : sProp 𝕄)
      ⊢ iprop(own c a2 X2 ∗ own c a3 X3 ∗ own c a4 X4
            ∗ (∃ f, ⌜a5.view.read (Elt F) f = k0_pay3 (a2.view.read (Elt F) X2) T⌝ ∗ own c a5 f)
            ∗ (∃ f, ⌜a6.view.read (Elt F) f = T⌝ ∗ own c a6 f))) := by
    intro g5 g6 e5 e6
    iintro ⟨H2, H3, H4, H5, H6⟩
    isplitl [H2]; · iexact H2
    isplitl [H3]; · iexact H3
    isplitl [H4]; · iexact H4
    isplitl [H5]
    · iexists g5; isplitr; swap; · iexact H5
      ipureintro; exact e5
    iexists g6; isplitr; swap; · iexact H6
    ipureintro; exact e6
  by_cases h0 : (i 1).val = 0
  · by_cases h1 : (i 0).val < 4
    · have hc1 := (bitLo_iff (i 0) (i 1)).2 ⟨h0, h1⟩
      have hc2 := mt (bitHi_iff (i 0) (i 1)).1 fun h => absurd h.2 (Nat.not_le.2 h1)
      exact ((runLo c i a2 h2 a3 h3 a4 h4 a5 h5 a6 h6 X2 X3 X4 f6 hc1 hc2).2.2 Set.univ f5).trans
        (wp_mono _ _ _ fun _ => post _ _ (by rw [lo_out, hlo h0 h1]) (by rw [lo_tile, hlo h0 h1]))
    · have hc1 := mt (bitLo_iff (i 0) (i 1)).1 fun h => h1 h.2
      have hc2 := (bitHi_iff (i 0) (i 1)).2 ⟨h0, Nat.not_lt.1 h1⟩
      exact ((runHi c i a2 h2 a3 h3 a4 h4 a5 h5 a6 h6 X2 X3 X4 f6 hc1 hc2).2.2 Set.univ f5).trans
        (wp_mono _ _ _ fun _ => post _ _ (by rw [hi_out, hhi h0 (Nat.not_lt.1 h1)]) (by rw [hi_tile, hhi h0 (Nat.not_lt.1 h1)]))
  · have hc1 := mt (bitLo_iff (i 0) (i 1)).1 fun h => h0 h.1
    have hc2 := mt (bitHi_iff (i 0) (i 1)).1 fun h => h0 h.1
    exact ((runKeep c i a2 h2 a3 h3 a4 h4 a5 h5 a6 h6 X2 X3 X4 f6 hc1 hc2).2 Set.univ f5).trans
      (wp_mono _ _ _ fun _ => post _ _ (by rw [keep_out, hkeep h0]) (hkeep h0))

end Cert.Proof.InP

end
-- ==== Proof.InTile.lean ====
module

public import proofs.«01_k».proof.Proof.InRun
public import Idealize.ShloMosaic.Lib.Pointwise
public import Idealize.ShloMosaic.Lib.Pipeline.ValueKit.Geometry

@[expose] public section

set_option maxRecDepth 16384

noncomputable section

namespace Cert.Proof.InP

open Cert.InProjIdeal Cert.InProjIdeal.Gen
open Idealize.ShloMosaic Idealize.ShloMosaic.TcCoe Idealize.ShloMosaic.Tactic
open Idealize.ShloMosaic.Pipeline

variable {F : FTy → Type} [FloatOps F]
variable (m : (ℓ : Loc nD τ sig) → Buf (Elt F) ℓ)

/-- The first weight column of tile `j`: the gates' 32 columns lie before the tiles from 4 on. -/
def firstCol (j : ℕ) : ℕ := j * 1024 + if j < 4 then 0 else 32

/-- The weight tile `j`, one row per column of the weights, before it is narrowed. -/
def wrows (A : S2x12320x4096.Idx → Elt F .f32) (j : ℕ) : Vec F S1024x4096 .f32 := fun y =>
  A (ix3 0 ⟨(firstCol j + (y 0).val) % 12320, by omega⟩ (y 1))

/-- The weight tile `j` as the scratch holds it. -/
def wtile (A : S2x12320x4096.Idx → Elt F .f32) (j : ℕ) : S1024x4096.Idx → Elt F .bf16 := truncf .bf16 (wrows A j) bitsLt_bf16_f32

theorem coord0 : ∀ t : Fin cfg0.N, (grid0.coords t 0).val = t.val / 32 := (by decide +kernel : ∀ t : Fin grid0.N, _)
theorem coord1 : ∀ t : Fin cfg0.N, (grid0.coords t 1).val = t.val % 32 := (by decide +kernel : ∀ t : Fin grid0.N, _)

theorem idx0 : ∀ t : Fin cfg0.N, win0_0.index t = ![(grid0.coords t 1).val, 0] := (by decide +kernel : ∀ t : Fin grid0.N, _)
theorem idx1 : ∀ t : Fin cfg0.N, win0_1.index t = ![0, (grid0.coords t 0).val, 0] := (by decide +kernel : ∀ t : Fin grid0.N, _)
theorem idx2 : ∀ t : Fin cfg0.N, win0_2.index t = ![0, ((grid0.coords t 0).val + 1) * 8, 0] := (by decide +kernel : ∀ t : Fin grid0.N, _)
theorem idx3 : ∀ t : Fin cfg0.N, win0_3.index t = ![(grid0.coords t 1).val, (grid0.coords t 0).val] := (by decide +kernel : ∀ t : Fin grid0.N, _)

/-- The second weight block always brings its first 32 rows. -/
theorem xsize2 : ∀ t : Fin cfg0.N, (cfg0.win 2).xsize (cfg0.grid.coords t) 0 = 1 ∧ 32 ≤ (cfg0.win 2).xsize (cfg0.grid.coords t) 1 ∧ (cfg0.win 2).xsize (cfg0.grid.coords t) 2 = 4096 := by
  decide +kernel

theorem moved2 (t : Fin cfg0.N) (a : Fin 1) (r : Fin 128) (k : Fin 4096) (hr : r.val < 32) :
    (cfg0.win 2).moved (cfg0.grid.coords t) (ix3 a r k : S1x128x4096.Idx) = true := by
  refine ((cfg0.win 2).moved_iff _ _).mpr fun x => ?_
  obtain ⟨h0, h1, h2⟩ := xsize2 t
  fin_cases x
  · exact lt_of_lt_of_le a.isLt h0.ge
  · exact lt_of_lt_of_le hr h1
  · exact lt_of_lt_of_le k.isLt h2.ge

theorem blk1_at (c : Dev nD) (t : Fin cfg0.N) (a : Fin 1) (r : Fin 1024) (k : Fin 4096) (n : Fin 12320) (hn : n.val = (grid0.coords t 0).val * 1024 + r.val) :
    (X0_1 m c t : S1x1024x4096.Idx → Elt F .f32) (ix3 a r k) = (V m c main_v0 : S2x12320x4096.Idx → Elt F .f32) (ix3 0 n k) := by
  have e := moved0_1 t (ix3 a r k)
  unfold X0_1 Pipeline.Window.fill
  refine (dif_pos e).trans ?_
  blk_simp [iblk]
  congr 1
  blk_ext [idx1, hn]

theorem blk2_at (c : Dev nD) (t : Fin cfg0.N) (d) (a : Fin 1) (r : Fin 128) (k : Fin 4096) (hr : r.val < 32) (n : Fin 12320) (hn : n.val = ((grid0.coords t 0).val + 1) * 1024 + r.val) :
    ((cfg0.win 2).fill (cfg0.grid.coords t) d (iblk m c 2 t) : S1x128x4096.Idx → Elt F .f32) (ix3 a r k) = (V m c main_v0 : S2x12320x4096.Idx → Elt F .f32) (ix3 0 n k) := by
  have e := moved2 t a r k hr
  unfold Pipeline.Window.fill
  refine (dif_pos e).trans ?_
  blk_simp [iblk]
  congr 1
  blk_ext [idx2, hn]

theorem pay1_eq (X : Vec F S1x1024x4096 .f32) (A : S2x12320x4096.Idx → Elt F .f32) (j : ℕ)
    (h : ∀ (r : Fin 1024) (k : Fin 4096), X (ix3 0 r k) = wrows A j (ix2 r k)) : k0_pay1 X = wtile A j := by
  have e : shapeCast S1024x4096 X shapeCasts_S1x1024x4096_S1024x4096 = wrows A j := by
    funext y
    idx_vars y
    rw [← h]
    pointwise
  unfold k0_pay1 wtile
  rw [← e]
  funext y
  idx_vars y
  pointwise

theorem pay2_eq (X : Vec F S1x1024x4096 .f32) (Y : Vec F S1x128x4096 .f32) (A : S2x12320x4096.Idx → Elt F .f32) (j : ℕ)
    (hx : ∀ (r : Fin 1024) (s : Fin 1024) (k : Fin 4096), s.val = r.val + 32 → X (ix3 0 s k) = wrows A j (ix2 r k))
    (hy : ∀ (r : Fin 1024) (s : Fin 128) (k : Fin 4096), s.val + 1024 = r.val + 32 → Y (ix3 0 s k) = wrows A j (ix2 r k)) : k0_pay2 X Y = wtile A j := by
  have e : extractStridedSlice S1024x4096 ![32, 0] (concatenate S1152x4096 0 [⟨S1024x4096, shapeCast S1024x4096 X shapeCasts_S1x1024x4096_S1024x4096⟩, ⟨S128x4096, shapeCast S128x4096 Y shapeCasts_S1x128x4096_S128x4096⟩] concatenates_S1024x4096_S128x4096_S1152x4096_d0) slices_S1152x4096_o32_0_S1024x4096 = wrows A j := by
    funext y
    idx_vars y
    pointwise
    split
    · exact hx _ _ _ (by simp; try omega)
    · exact hy _ _ _ (by simp; try omega)
  unfold k0_pay2 wtile
  rw [← e]
  funext y
  idx_vars y
  pointwise

end Cert.Proof.InP

end
-- ==== Proof.InLaunch.lean ====
module

public import proofs.«01_k».proof.Proof.InBody
public import proofs.«01_k».proof.Proof.InTile

@[expose] public section

set_option maxRecDepth 16384

noncomputable section

namespace Cert.Proof.InP

open Cert.InProjIdeal Cert.InProjIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The transposed weights as the launch finds them. -/
def wts (c : Dev nD) : S2x12320x4096.Idx → Elt F .f32 := V m c main_v0

/-- The rows of the input at the point. -/
def hblk (c : Dev nD) (t : Fin cfg0.N) : Vec F S528x4096 .bf16 := iblk m c 0 t

/-- The output block: the rows times the weight tile. -/
def outB (c : Dev nD) (t : Fin cfg0.N) : S528x1024.Idx → Elt F .f32 := k0_pay3 (hblk m c t) (wtile (wts m c) (t.val / 32))

/-- What the second weight window's buffer holds, its part outside the array left open. -/
def X0_2 (c : Dev nD) (t : Fin cfg0.N) : (cfg0.win 2).block.Idx → Elt F (cfg0.win 2).elt :=
  (cfg0.win 2).fill (cfg0.grid.coords t) (fun _ => Classical.choice inferInstance) (iblk m c 2 t)

/-- Between points: the scratch is owned, and within a column of tiles it holds that column's weight tile. -/
def inv (c : Dev nD) (n : ℕ) : sProp 𝕄 :=
  iprop((∃ f, ⌜n % 32 ≠ 0 → (Memref.whole cc0_scratch0).view.read (Elt F) f = wtile (wts m c) (n / 32)⌝ ∗ own c (Memref.whole cc0_scratch0) f)
    ∗ ∃ r, prngReg c r)

def dats (_ : Fin 1) (c : Dev nD) : Dat τ (Elt F) Unit ℕ (UR sig nD τ) ℕ cfg0 c where
  A w := V m c (arrRef spec0 w)
  after := fun
    | 0 => fun t => iblk m c 0 t
    | 1 => fun t => X0_1 m c t
    | 2 => fun t => X0_2 m c t
    | 3 => fun t => outB m c t
    | ⟨_ + 4, h⟩ => absurd h (Nat.not_lt.2 (Nat.le_add_left _ _))
  Φ t := inv m c t.val
  q w := shareOf spec0 w
  owed _ := 0

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare (outB m c t))

theorem A_eq (c : Dev nD) (w : Fin cfg0.W) : (dats m 0 c).A w = V m c (arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = X0_1 m c t :=
  before0_1_of m (dats m 0 c) (A_eq m c 1) (fun _ => rfl) t d
theorem after_2 (c : Dev nD) (t : Fin cfg0.N) : (dats m 0 c).after 2 t = X0_2 m c t := by dsimp only [dats]
theorem before_2 (c : Dev nD) (t : Fin cfg0.N) (d) : (dats m 0 c).before 2 t d = (cfg0.win 2).fill (cfg0.grid.coords t) d (iblk m c 2 t) :=
  ((dats m 0 c).before_in_eq_fetched 2 rfl (fun _ => rfl)
      (fun t t' h => funext fun a => congrArg (fun n => Pipeline.Clip.of n ((cfg0.win 2).size a) (S2x12320x4096.size a)) (congrFun h a))
      (fun t => by rw [after_2]; unfold X0_2; rw [Pipeline.Window.cut_fill]; unfold Dat.blockOf iblk; rw [A_eq]; try rfl) t d).trans
    (by unfold Dat.fetched Dat.blockOf iblk; rw [A_eq]; try rfl)

theorem after_1 (c : Dev nD) (t : Fin cfg0.N) : (dats m 0 c).after 1 t = X0_1 m c t := by dsimp only [dats]

theorem post1 (c : Dev nD) (t : Fin cfg0.N) :
    (cfg0.win 1).fill (cfg0.grid.coords t) (X0_1 m c t) ((cfg0.win 1).cut (cfg0.grid.coords t) ((dats m 0 c).after 1 t)) = X0_1 m c t := by
  rw [after_1, Pipeline.Window.fill_cut]

theorem post2 (c : Dev nD) (t : Fin cfg0.N) (d) :
    (cfg0.win 2).fill (cfg0.grid.coords t) d ((cfg0.win 2).cut (cfg0.grid.coords t) ((dats m 0 c).after 2 t)) = (cfg0.win 2).fill (cfg0.grid.coords t) d (iblk m c 2 t) := by
  rw [after_2]; unfold X0_2; rw [Pipeline.Window.cut_fill]

theorem firstCol_lo {j : ℕ} (h : j < 4) : firstCol j = j * 1024 := by unfold firstCol; rw [if_pos h]; rfl
theorem firstCol_hi {j : ℕ} (h : 4 ≤ j) : firstCol j = j * 1024 + 32 := by unfold firstCol; rw [if_neg (Nat.not_lt.2 h)]

theorem tile_lo (c : Dev nD) (t : Fin cfg0.N) (h : (grid0.coords t 0).val < 4) : k0_pay1 (X0_1 m c t) = wtile (wts m c) (t.val / 32) := by
  refine pay1_eq _ _ _ fun r k => ?_
  have hc := coord0 t
  have e := firstCol_lo h
  rw [hc] at e
  exact blk1_at m c t 0 r k _ (by show (firstCol (t.val / 32) + r.val) % 12320 = _; omega)

theorem tile_hi (c : Dev nD) (t : Fin cfg0.N) (d) (h : 4 ≤ (grid0.coords t 0).val) :
    k0_pay2 (X0_1 m c t) ((cfg0.win 2).fill (cfg0.grid.coords t) d (iblk m c 2 t)) = wtile (wts m c) (t.val / 32) := by
  have hc := coord0 t
  have hb : (grid0.coords t 0).val < 12 := (grid0.coords t 0).isLt
  have e := firstCol_hi h
  rw [hc] at e
  refine pay2_eq _ _ _ _ (fun r s k hs => ?_) (fun r s k hs => ?_)
  · exact blk1_at m c t 0 s k _ (by show (firstCol (t.val / 32) + r.val) % 12320 = _; omega)
  · exact blk2_at m c t d 0 s k (by omega) _ (by show (firstCol (t.val / 32) + r.val) % 12320 = _; omega)

/-- The body table's row at the point. -/
theorem defs₀_row (t : Fin cfg0.N) : defs₀ (F := F) .tc cfg0.body (cfg0.bodyArgs t (cfg0.slots t)) = bodyAt0 t := by
  unfold defs₀; rw [Defs.onTc_tc]

/-- The body at the point, the invariant opened into the scratch. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2, post2]
  rw [show (dats m 0 c).owesAt () t.succ = (dats m 0 c).owesAt () t.castSucc from rfl,
    show (dats m 0 c).Φ t.castSucc = inv m c t.val from rfl, show (dats m 0 c).Φ t.succ = inv m c (t.val + 1) from rfl]
  have e1 := coord1 t
  unfold inv owns
  iintro ⟨⟨⟨%f6, %hf, H6⟩, Hr⟩, HO, ⟨%d0, %X2, %e2, H2⟩, ⟨%d1, %X3, %e3, H3⟩, ⟨%d2, %X4, %e4, H4⟩, ⟨%d3, %f5, -, H5⟩⟩
  ihave Hw : wp frame (wpE (defs₀ (F := F)) Variants.none (c : Thread nD τ) none) Set.univ (bodyAt0 t) (fun _ => iprop(own c (st0_0 t) X2 ∗ own c (st0_1 t) X3 ∗ own c (st0_2 t) X4 ∗ (∃ f, ⌜(st0_3 t).view.read (Elt F) f = k0_pay3 ((st0_0 t).view.read (Elt F) X2) (wtile (wts m c) (t.val / 32))⌝ ∗ own c (st0_3 t) f) ∗ (∃ f, ⌜(Memref.whole cc0_scratch0).view.read (Elt F) f = wtile (wts m c) (t.val / 32)⌝ ∗ own c (Memref.whole cc0_scratch0) f))) $$ [H2 H3 H4 H5 H6]
  · unfold bodyAt0
    iapply (body_tile c (grid0.coords t) (st0_0 t) _ (st0_1 t) _ (st0_2 t) _ (st0_3 t) _ _ _ X2 X3 X4 f6 (wtile (wts m c) (t.val / 32))
      (fun _ h => by rw [e3]; exact tile_lo m c t h) (fun _ h => by rw [e3, e4]; exact tile_hi m c t d2 h) (fun h => hf (by rw [← e1]; exact h)) f5)
    isplitl [H2]; · iexact H2
    isplitl [H3]; · iexact H3
    isplitl [H4]; · iexact H4
    isplitl [H5]; · iexact H5
    iexact H6
  iapply (wp_wand_r _ _ _)
  isplitl [Hw]; · iexact Hw
  iintro %a ⟨H2, H3, H4, ⟨%g5, %e5, H5⟩, ⟨%g6, %e6, H6⟩⟩
  isplitl [H6 Hr]
  · isplitr [Hr]; swap; · iexact Hr
    iexists g6; isplitr; swap; · iexact H6
    ipureintro; intro hn; rw [e6]; congr 1; omega
  isplitl [HO]; · iexact HO
  isplitl [H2]
  · iexists X2; isplitr; swap; · iexact H2
    ipureintro; exact e2
  isplitl [H3]
  · iexists X0_1 m c t, X3; isplitr; swap; · iexact H3
    ipureintro; rw [post1]; exact e3
  isplitl [H4]
  · iexists d2, X4; isplitr; swap; · iexact H4
    ipureintro; rw [post2]; exact e4
  iexists g5; isplitr; swap; · iexact H5
  ipureintro; rw [e5, e2]; rfl

theorem body_obligation (c : Dev nD) :
    BodyObligationLoose (dats m 0 c) (defs₀ (F := F)) Variants.none () Set.univ := fun t => by
  rw [bigSep_W0, bigSep_W0, defs₀_row]
  exact triple_restated (sound_body m c t) rfl .rfl fun _ => .rfl

theorem inv_in (c : Dev nD) : ΦA spec0 c ⊢ inv m c 0 := by
  unfold ΦA inv
  rw [scopedRest0_eq]
  iintro ⟨⟨%f6, H6⟩, Hr⟩
  simp only [own, View.set_whole]
  isplitr [Hr]; swap; · iexact Hr
  iexists f6; isplitr; swap; · iexact H6
  ipureintro; exact fun h => absurd rfl h

theorem inv_out (c : Dev nD) (n : ℕ) : inv m c n ⊢ ΦA spec0 c := by
  unfold ΦA inv
  rw [scopedRest0_eq]
  simp only [own, View.set_whole]
  iintro ⟨⟨%f6, %_, H6⟩, Hr⟩
  isplitr [Hr]; swap; · iexact Hr
  iexists f6; iexact H6

theorem run_main :
    θ_run defs (onTc (τ := τ) (main (F := F))) (s₀ m ρ) (fun r => FramePost cfgs (dats m) 0 (V m) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m)
    (hin := fun c => inv_in m c) (hout := fun c => inv_out m c _)

/-- The run ends with the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

end Cert.Proof.InP

end
-- ==== Proof.InSpec.lean ====
module

public import Idealize.ShloMosaic.Lib.Pointwise

@[expose] public section

noncomputable section

namespace Cert.Proof.InP

open Idealize.ShloMosaic

/-- The weights' column behind column `n` of the projection: the gates' 32 columns after the first 4096 are left out. -/
def col (n : Fin 12288) : Fin 12320 := ⟨n.val + if n.val < 4096 then 0 else 32, by split <;> omega⟩

/-- The projection: every row of the input against every column of the first layer's weights, the gates left out. -/
def proj (h : (⟨2, ![16896, 4096]⟩ : Shape).Idx → EReal) (w : (⟨3, ![2, 4096, 12320]⟩ : Shape).Idx → EReal) :
    (⟨2, ![16896, 12288]⟩ : Shape).Idx → EReal := fun z => ∑ k : Fin 4096, h (ix2 (z 0) k) * w (ix3 0 k (col (z 1)))

end Cert.Proof.InP

end
-- ==== Proof.InArr.lean ====
module

public import proofs.«01_k».proof.Proof.InLaunch
public import proofs.«01_k».proof.Proof.InSpec
public import Idealize.ShloMosaic.Lib.StableHlo.Run

@[expose] public section

set_option maxRecDepth 16384

noncomputable section

namespace Cert.Proof.InP

open Cert.InProjIdeal Cert.InProjIdeal.Gen
open Idealize.ShloMosaic Idealize.ShloMosaic.TcCoe Idealize.ShloMosaic.Tactic
open Idealize.ShloMosaic.Pipeline
open Idealize.SL.Sem

variable (m : (ℓ : Loc nD τ sig) → Buf (Elt Ideal) ℓ)

theorem V_main_v0 (c : Dev nD) : V m c main_v0
    = (transpose S2x12320x4096 [0, 2, 1] (m ((c : Thread nD τ).loc main_arg1) : S2x4096x12320.Idx → EReal) transposes_S2x4096x12320_S2x12320x4096_0_2_1) := by
  show StableHlo.after hostOps0 _ (Proc.devRef .tc main_v0) = _
  after_results

theorem wts_at (c : Dev nD) (a : Fin 2) (n : Fin 12320) (k : Fin 4096) :
    wts m c (ix3 a n k) = (m ((c : Thread nD τ).loc main_arg1) : S2x4096x12320.Idx → EReal) (ix3 a k n) := by
  unfold wts
  rw [V_main_v0]
  pointwise

theorem hblk_at (c : Dev nD) (t : Fin cfg0.N) (r : Fin 528) (k : Fin 4096) (s : Fin 16896) (hs : s.val = (grid0.coords t 1).val * 528 + r.val) :
    hblk m c t (ix2 r k) = (m ((c : Thread nD τ).loc main_arg0) : S16896x4096.Idx → EReal) (ix2 s k) := by
  unfold hblk
  blk_simp [iblk]
  rw [V_main_arg0]
  congr 1
  blk_ext [idx0, hs]

theorem pay3_at (X : Vec Ideal S528x4096 .bf16) (T : Vec Ideal S1024x4096 .bf16) (r : Fin 528) (n : Fin 1024) :
    k0_pay3 X T (ix2 r n) = ∑ k : Fin 4096, X (ix2 r k) * T (ix2 n k) := by
  pointwise [k0_pay3]

theorem wtile_at (A : S2x12320x4096.Idx → EReal) (j : ℕ) (n : Fin 1024) (k : Fin 4096) :
    wtile (F := Ideal) A j (ix2 n k) = A (ix3 0 ⟨(firstCol j + n.val) % 12320, by omega⟩ k) := by
  pointwise [wtile, wrows]

/-- The block's products are the projection's, at the place the block takes in the result. -/
theorem out_at (c : Dev nD) (t : Fin cfg0.N) (y : S528x1024.Idx) (z : S16896x12288.Idx)
    (h0 : (z 0).val = (grid0.coords t 1).val * 528 + (y 0).val) (h1 : (z 1).val = (grid0.coords t 0).val * 1024 + (y 1).val) :
    outB m c t y = proj (m ((c : Thread nD τ).loc main_arg0)) (m ((c : Thread nD τ).loc main_arg1)) z := by
  have hc := coord0 t
  have hb : (grid0.coords t 0).val < 12 := (grid0.coords t 0).isLt
  have b0 : (y 0).val < 528 := (y 0).isLt
  have b1 : (y 1).val < 1024 := (y 1).isLt
  obtain ⟨r, n, rfl⟩ : ∃ r n, y = ix2 r n := ⟨y 0, y 1, by funext a; fin_cases a <;> rfl⟩
  unfold outB proj
  rw [pay3_at]
  refine Finset.sum_congr rfl fun k _ => ?_
  rw [wtile_at, wts_at, hblk_at m c t r k (z 0) h0]
  have e : (⟨(firstCol (t.val / 32) + n.val) % 12320, by omega⟩ : Fin 12320) = col (z 1) := by
    apply Fin.ext
    show (firstCol (t.val / 32) + n.val) % 12320 = (z 1).val + if (z 1).val < 4096 then 0 else 32
    have h1' : (z 1).val = (grid0.coords t 0).val * 1024 + n.val := h1
    have hn : n.val < 1024 := n.isLt
    unfold firstCol
    split <;> split <;> omega
  rw [e]

theorem final (c : Dev nD) : (dats m 0 c).arrAt 3 cfg0.N = proj (m ((c : Thread nD τ).loc main_arg0)) (m ((c : Thread nD τ).loc main_arg1)) := by
  refine (dats m 0 c).arrAt_eq_of_covers 3 _ (by decide +kernel) fun t hf y => ?_
  blk_simp
  exact out_at m c t y ((win0_3.blk t).view.emb y) (by blk_simp [idx3]; try omega) (by blk_simp [idx3]; try omega)

end Cert.Proof.InP

end
-- ==== Proof.InRefVal.lean ====
module

public import proofs.«01_k».proof.Proof.Gen.InRefIdeal
public import proofs.«01_k».proof.Proof.Gen.InRefIdeal.Run
public import proofs.«01_k».proof.Proof.InSpec

@[expose] public section

set_option maxRecDepth 16384

noncomputable section

namespace Cert.Proof.InP

open Cert.InRefIdeal Cert.InRefIdeal.Gen
open Idealize.ShloMosaic Idealize.ShloMosaic.TcCoe

/-- All 12320 columns of the reference's product. -/
def prod (h : FVec Ideal S16896x4096 .bf16) (w : FVec Ideal S2x4096x12320 .f32) : FVec Ideal S16896x12320 .f32 :=
  Host.dotGeneral dot_S16896x4096_S4096x12320_S16896x12320_1_0_0_1_n_n none (extf .f32 h bitsLt_bf16_f32)
    (shapeCast S4096x12320 (extractStridedSlice S1x4096x12320 ![0, 0, 0] w slices_S2x4096x12320_S1x4096x12320_0_0_0) shapeCasts_S1x4096x12320_S4096x12320)

theorem prod_at (h : FVec Ideal S16896x4096 .bf16) (w : FVec Ideal S2x4096x12320 .f32) (r : Fin 16896) (n : Fin 12320) :
    prod h w (ix2 r n) = ∑ k : Fin 4096, h (ix2 r k) * w (ix3 0 k n) := by
  pointwise [prod]

/-- The columns before the gates and those behind them, side by side. -/
def beside (P : FVec Ideal S16896x12320 .f32) : FVec Ideal S16896x12288 .f32 :=
  concatenate S16896x12288 1 [⟨S16896x4096, extractStridedSlice S16896x4096 ![0, 0] P slices_S16896x12320_S16896x4096_0_0⟩,
    ⟨S16896x8192, extractStridedSlice S16896x8192 ![0, 4128] P slices_S16896x12320_S16896x8192_0_4128⟩] concatenates_S16896x4096_S16896x8192_S16896x12288_d1

theorem beside_at (P : FVec Ideal S16896x12320 .f32) (r : Fin 16896) (n : Fin 12288) : beside P (ix2 r n) = P (ix2 r (col n)) := by
  pointwise [beside]
  by_cases h : n.val < 4096
  · rw [dif_pos h]
    have e : col n = ⟨n.val, by omega⟩ := Fin.ext (by unfold col; simp only [if_pos h]; rfl)
    rw [e]
  · rw [dif_neg h]
    have e : col n = ⟨4128 + (n.val - 4096), by omega⟩ := Fin.ext (by unfold col; simp only [if_neg h]; omega)
    rw [e]

/-- The reference computes the projection. -/
theorem ref_eq (h : FVec Ideal S16896x4096 .bf16) (w : FVec Ideal S2x4096x12320 .f32) : beside (prod h w) = proj h w := by
  funext y
  obtain ⟨r, n, rfl⟩ : ∃ r n, y = ix2 r n := ⟨y 0, y 1, by funext a; fin_cases a <;> rfl⟩
  rw [beside_at, prod_at]
  rfl

end Cert.Proof.InP

end
-- ==== Proof.InAlg.lean ====
module

public import proofs.«01_k».proof.Defs
public import proofs.«01_k».proof.Proof.InArr
public import proofs.«01_k».proof.Proof.InRefVal

@[expose] public section

set_option maxRecDepth 16384

noncomputable section

namespace Cert.Proof.InP

open Cert.InProjIdeal Cert.InProjIdeal.Gen
open Idealize.ShloMosaic Idealize.ShloMosaic.TcCoe
open Idealize.SL.Sem

theorem algebraic : Cert.algebraic_InProjIdeal_InRefIdeal (hInProjIdeal := Cert.InProjIdeal.Gen.facts)
    (hInRefIdeal := Cert.InRefIdeal.Gen.facts) := by
  intro m g m' g' hpre hargs
  refine ⟨fun c => proj (m ((c.tc : Thread nD τ).loc main_arg0)) (m ((c.tc : Thread nD τ).loc main_arg1)), ?_, ?_⟩
  · refine (θ_run defs _ _).mono (fun r h c => ⟨((h.1 c).1 3).trans (final m c), ?_, ?_⟩) (run_main m g)
    · exact ((h.1 c).1 0).trans (((dats m 0 c).arrAt_in 0 rfl _).trans ((A_eq m c 0).trans (V_main_arg0 m c)))
    · exact ((h.1 c).2 main_arg1 (Pipeline.mem_restRefs_of main_arg1 (by decide) (by decide))).trans (V_main_arg1 m c)
  · refine (θ_run Cert.InRefIdeal.defs _ _).mono (fun r h c => ⟨(h c).1.trans ?_, (h c).2⟩) (Cert.InRefIdeal.Value.run (F := Ideal) m' g')
    rw [(hargs c).1, (hargs c).2]
    exact ref_eq _ _

end Cert.Proof.InP

end
-- ==== Proof.OutBody.lean ====
module

public import proofs.«01_k».proof.Proof.Gen.OutProjIdeal
public import proofs.«01_k».proof.Proof.Gen.OutProjIdeal.Skeleton
public import proofs.«01_k».proof.Proof.Gen.OutProjIdeal.Frame
public import Idealize.ShloMosaic.Lib.VecWindow

@[expose] public section

set_option maxRecDepth 16384

noncomputable section

namespace Cert.Proof.OutP

open Cert.OutProjIdeal Cert.OutProjIdeal.Gen
open Idealize.ShloMosaic Idealize.ShloMosaic.TcCoe Idealize.ShloMosaic.Tactic

variable {F : FTy → Type} [FloatOps F]

variable (c : Dev nD) (i : grid0.Coords) (a2 : Memref sig .tc .vmem S528x1024 .bf16) (h2 : a2.IsWhole) (a3 : Memref sig .tc .vmem S528x1024 .bf16) (h3 : a3.IsWhole)
    (a4 : Memref sig .tc .vmem S528x2048 .bf16) (h4 : a4.IsWhole) (a5 : Memref sig .tc .vmem S1x1024x1024 .f32) (h5 : a5.IsWhole)
    (a6 : Memref sig .tc .vmem S1x1024x1024 .f32) (h6 : a6.IsWhole) (a7 : Memref sig .tc .vmem S1x2048x1024 .f32) (h7 : a7.IsWhole)
    (a8 : Memref sig .tc .vmem S528x1024 .f32) (h8 : a8.IsWhole) (a9 : Memref sig .tc .vmem S1x1024 .f32) (h9 : a9.IsWhole)
    (a10 : Memref sig .tc .vmem S1x1x1024 .f32) (h10 : a10.IsWhole) (a11 : Memref sig .tc .vmem S528x1024 .f32) (h11 : a11.IsWhole)
    (a12 : Memref sig .tc .vmem S1024x1024 .bf16) (h12 : a12.IsWhole) (a13 : Memref sig .tc .vmem S1024x1024 .bf16) (h13 : a13.IsWhole)
    (a14 : Memref sig .tc .vmem S2048x1024 .bf16) (h14 : a14.IsWhole)
    (x0 : Vec F S528x1024 .bf16) (x1 : Vec F S528x1024 .bf16) (x2 : Vec F S528x2048 .bf16) (x3 : Vec F S1x1024x1024 .f32) (x4 : Vec F S1x1024x1024 .f32)
    (x5 : Vec F S1x2048x1024 .f32) (x6 : Vec F S528x1024 .f32) (x7 : Vec F S1x1024 .f32) (x8 : Vec F S1x1x1024 .f32)
    (s0 : Vec F S1024x1024 .bf16) (s1 : Vec F S1024x1024 .bf16) (s2 : Vec F S2048x1024 .bf16)

theorem fill_a (hc : cond0_0 i) : sout0_A_0 c i a2 h2 a3 h3 a4 h4 a5 h5 a6 h6 a7 h7 a8 h8 a9 h9 a10 h10 a11 h11 a12 h12 a13 h13 a14 h14 hc x0 x1 x2 x3 x4 x5 x6 x7 x8 = k0_pay2 x3 := by
  unfold sout0_A_0 kernelRun0_A
  dsimp only
  refine (View.read_writes_full _ _ inb_S1024x1024_S1024x1024_0_0 _ _).trans ?_
  rw [View.readAt_full a5.view _ inb_S1x1024x1024_S1x1024x1024_0_0_0, h5.read_unread]

theorem fill_b (hc : cond0_0 i) : sout0_A_1 c i a2 h2 a3 h3 a4 h4 a5 h5 a6 h6 a7 h7 a8 h8 a9 h9 a10 h10 a11 h11 a12 h12 a13 h13 a14 h14 hc x0 x1 x2 x3 x4 x5 x6 x7 x8 = k0_pay3 x4 := by
  unfold sout0_A_1 kernelRun0_A
  dsimp only
  refine (View.read_writes_full _ _ inb_S1024x1024_S1024x1024_0_0 _ _).trans ?_
  rw [View.readAt_full a6.view _ inb_S1x1024x1024_S1x1024x1024_0_0_0, h6.read_unread]

theorem fill_g (hc : cond0_0 i) : sout0_A_2 c i a2 h2 a3 h3 a4 h4 a5 h5 a6 h6 a7 h7 a8 h8 a9 h9 a10 h10 a11 h11 a12 h12 a13 h13 a14 h14 hc x0 x1 x2 x3 x4 x5 x6 x7 x8 = k0_pay4 x5 := by
  unfold sout0_A_2 kernelRun0_A
  dsimp only
  refine (View.read_writes_full _ _ inb_S2048x1024_S2048x1024_0_0 _ _).trans ?_
  rw [View.readAt_full a7.view _ inb_S1x2048x1024_S1x2048x1024_0_0_0, h7.read_unread]

theorem copy_a : kernelRun0_A.sl.v4 c a5 h5 a12 x3 = k0_pay2 x3 := by
  unfold kernelRun0_A.sl.v4
  refine (View.readCov_full a12.view inb_S1024x1024_S1024x1024_0_0 inb_S1024x1024_S1024x1024_0_0 _ _).trans ?_
  rw [View.readAt_full a5.view _ inb_S1x1024x1024_S1x1024x1024_0_0_0, h5.read_unread]

theorem copy_b : kernelRun0_A.sl.v7 c a6 h6 a13 x4 = k0_pay3 x4 := by
  unfold kernelRun0_A.sl.v7
  refine (View.readCov_full a13.view inb_S1024x1024_S1024x1024_0_0 inb_S1024x1024_S1024x1024_0_0 _ _).trans ?_
  rw [View.readAt_full a6.view _ inb_S1x1024x1024_S1x1024x1024_0_0_0, h6.read_unread]

theorem copy_g : kernelRun0_A.sl.v11 c a7 h7 a14 x5 = k0_pay4 x5 := by
  unfold kernelRun0_A.sl.v11
  refine (View.readCov_full a14.view inb_S2048x1024_S2048x1024_0_0 inb_S2048x1024_S2048x1024_0_0 _ _).trans ?_
  rw [View.readAt_full a7.view _ inb_S1x2048x1024_S1x2048x1024_0_0_0, h7.read_unread]

theorem out_fill (hc : cond0_0 i) : out0_A_9 c i a2 h2 a3 h3 a4 h4 a5 h5 a6 h6 a7 h7 a8 h8 a9 h9 a10 h10 a11 h11 a12 h12 a13 h13 a14 h14 hc x0 x1 x2 x3 x4 x5 x6 x7 x8
    = k0_pay1 (k0_pay5 x0 (k0_pay2 x3) x1 (k0_pay3 x4) x2 (k0_pay4 x5)) (k0_pay6 i) x7 x8 x6 := by
  unfold out0_A_9 kernelRun0_A
  dsimp only
  refine (View.read_writes_full _ _ inb_S528x1024_S528x1024_0_0 _ _).trans ?_
  rw [View.readAt_full a9.view _ inb_S1x1024_S1x1024_0_0, h9.read_unread, View.readAt_full a10.view _ inb_S1x1x1024_S1x1x1024_0_0_0, h10.read_unread,
    View.readAt_full a8.view _ inb_S528x1024_S528x1024_0_0, h8.read_unread]
  unfold kernelRun0_A.sl.r
  rw [View.readAt_full a2.view _ inb_S528x1024_S528x1024_0_0, h2.read_unread, View.readAt_full a3.view _ inb_S528x1024_S528x1024_0_0, h3.read_unread,
    View.readAt_full a4.view _ inb_S528x2048_S528x2048_0_0, h4.read_unread, copy_a, copy_b, copy_g]

theorem out_keep (hc : ¬ cond0_0 i) : out0_B_9 c i a2 h2 a3 h3 a4 h4 a5 h5 a6 h6 a7 h7 a8 h8 a9 h9 a10 h10 a11 h11 a12 h12 a13 h13 a14 h14 hc x0 x1 x2 x3 x4 x5 x6 x7 x8 s0 s1 s2
    = k0_pay1 (k0_pay5 x0 s0 x1 s1 x2 s2) (k0_pay6 i) x7 x8 x6 := by
  unfold out0_B_9 kernelRun0_B
  dsimp only
  refine (View.read_writes_full _ _ inb_S528x1024_S528x1024_0_0 _ _).trans ?_
  rw [View.readAt_full a9.view _ inb_S1x1024_S1x1024_0_0, h9.read_unread, View.readAt_full a10.view _ inb_S1x1x1024_S1x1x1024_0_0_0, h10.read_unread,
    View.readAt_full a8.view _ inb_S528x1024_S528x1024_0_0, h8.read_unread]
  unfold kernelRun0_B.sl.r
  rw [View.readAt_full a2.view _ inb_S528x1024_S528x1024_0_0, h2.read_unread, View.readAt_full a3.view _ inb_S528x1024_S528x1024_0_0, h3.read_unread,
    View.readAt_full a4.view _ inb_S528x2048_S528x2048_0_0, h4.read_unread, View.readAt_full a12.view _ inb_S1024x1024_S1024x1024_0_0, h12.read_unread,
    View.readAt_full a13.view _ inb_S1024x1024_S1024x1024_0_0, h13.read_unread, View.readAt_full a14.view _ inb_S2048x1024_S2048x1024_0_0, h14.read_unread]

end Cert.Proof.OutP

end
-- ==== Proof.OutSpec.lean ====
module

public import Idealize.ShloMosaic.Lib.Pointwise

@[expose] public section

noncomputable section

namespace Cert.Proof.OutP

open Idealize.ShloMosaic

/-- The three mixers' rows against their rows of the first layer's weights: 1024, 1024 and 2048 of them, one behind the other. -/
def mixed (oa ob : (⟨2, ![16896, 1024]⟩ : Shape).Idx → EReal) (og : (⟨2, ![16896, 2048]⟩ : Shape).Idx → EReal)
    (w : (⟨3, ![2, 4096, 4096]⟩ : Shape).Idx → EReal) (s : Fin 16896) (n : Fin 4096) : EReal :=
  (∑ k : Fin 1024, oa (ix2 s k) * w (ix3 0 ⟨k.val, by omega⟩ n)) + (∑ k : Fin 1024, ob (ix2 s k) * w (ix3 0 ⟨1024 + k.val, by omega⟩ n))
    + ∑ k : Fin 2048, og (ix2 s k) * w (ix3 0 ⟨2048 + k.val, by omega⟩ n)

/-- The gate of a row: the first 256 rows of each of the two sequences take the context's, the others their sequence's. -/
def gateAt (gc : (⟨1, ![4096]⟩ : Shape).Idx → EReal) (gl : (⟨2, ![2, 4096]⟩ : Shape).Idx → EReal) (s : Fin 16896) (n : Fin 4096) : EReal :=
  if s.val % 8448 < 256 then gc (ix1 n) else gl (ix2 ⟨s.val / 8448, by omega⟩ n)

/-- The output projection, gated and added to the stream. -/
def added (oa ob : (⟨2, ![16896, 1024]⟩ : Shape).Idx → EReal) (og : (⟨2, ![16896, 2048]⟩ : Shape).Idx → EReal)
    (w : (⟨3, ![2, 4096, 4096]⟩ : Shape).Idx → EReal) (res : (⟨2, ![16896, 4096]⟩ : Shape).Idx → EReal)
    (gc : (⟨1, ![4096]⟩ : Shape).Idx → EReal) (gl : (⟨2, ![2, 4096]⟩ : Shape).Idx → EReal) : (⟨2, ![16896, 4096]⟩ : Shape).Idx → EReal :=
  fun z => res (ix2 (z 0) (z 1)) + gateAt gc gl (z 0) (z 1) * mixed oa ob og w (z 0) (z 1)

end Cert.Proof.OutP

end
-- ==== Proof.OutTile.lean ====
module

public import proofs.«01_k».proof.Proof.OutBody
public import proofs.«01_k».proof.Proof.OutSpec
public import Idealize.ShloMosaic.Lib.StableHlo.Run
public import Idealize.ShloMosaic.Lib.Pipeline.ValueKit.Geometry

@[expose] public section

set_option maxRecDepth 16384

noncomputable section

namespace Cert.Proof.OutP

open Cert.OutProjIdeal Cert.OutProjIdeal.Gen
open Idealize.ShloMosaic Idealize.ShloMosaic.TcCoe Idealize.ShloMosaic.Tactic
open Idealize.ShloMosaic.Pipeline

variable (m : (ℓ : Loc nD τ sig) → Buf (Elt Ideal) ℓ)

theorem coord0 : ∀ t : Fin cfg0.N, (grid0.coords t 0).val = t.val / 32 := (by decide +kernel : ∀ t : Fin grid0.N, _)
theorem coord1 : ∀ t : Fin cfg0.N, (grid0.coords t 1).val = t.val % 32 := (by decide +kernel : ∀ t : Fin grid0.N, _)

theorem idx0 : ∀ t : Fin cfg0.N, win0_0.index t = ![(grid0.coords t 1).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 1).val, 0] := (by decide +kernel : ∀ t : Fin grid0.N, _)
theorem idx3 : ∀ t : Fin cfg0.N, win0_3.index t = ![0, 0, (grid0.coords t 0).val] := (by decide +kernel : ∀ t : Fin grid0.N, _)
theorem idx4 : ∀ t : Fin cfg0.N, win0_4.index t = ![0, 1, (grid0.coords t 0).val] := (by decide +kernel : ∀ t : Fin grid0.N, _)
theorem idx5 : ∀ t : Fin cfg0.N, win0_5.index t = ![0, 1, (grid0.coords t 0).val] := (by decide +kernel : ∀ t : Fin grid0.N, _)
theorem idx6 : ∀ t : Fin cfg0.N, win0_6.index t = ![(grid0.coords t 1).val, (grid0.coords t 0).val] := (by decide +kernel : ∀ t : Fin grid0.N, _)
theorem idx7 : ∀ t : Fin cfg0.N, win0_7.index t = ![0, (grid0.coords t 0).val] := (by decide +kernel : ∀ t : Fin grid0.N, _)
theorem idx8 : ∀ t : Fin cfg0.N, win0_8.index t = ![(grid0.coords t 1).val / 16, 0, (grid0.coords t 0).val] := (by decide +kernel : ∀ t : Fin grid0.N, _)
theorem idx9 : ∀ t : Fin cfg0.N, win0_9.index t = ![(grid0.coords t 1).val, (grid0.coords t 0).val] := (by decide +kernel : ∀ t : Fin grid0.N, _)

theorem V_main_v0 (c : Dev nD) : V m c main_v0 = (shapeCast S1x4096 (m ((c : Thread nD τ).loc main_arg5) : S4096.Idx → EReal) shapeCasts_S4096_S1x4096) := by
  show StableHlo.after hostOps0 _ (Proc.devRef .tc main_v0) = _
  after_results <;> rfl

theorem V_main_v1 (c : Dev nD) : V m c main_v1 = (shapeCast S2x1x4096 (m ((c : Thread nD τ).loc main_arg6) : S2x4096.Idx → EReal) shapeCasts_S2x4096_S2x1x4096) := by
  show StableHlo.after hostOps0 _ (Proc.devRef .tc main_v1) = _
  after_results <;> rfl

theorem a_at (c : Dev nD) (t : Fin cfg0.N) (r : Fin 528) (k : Fin 1024) (s : Fin 16896) (hs : s.val = (grid0.coords t 1).val * 528 + r.val) :
    (iblk m c 0 t : S528x1024.Idx → EReal) (ix2 r k) = (m ((c : Thread nD τ).loc main_arg0) : S16896x1024.Idx → EReal) (ix2 s k) := by
  blk_simp [iblk]
  rw [V_main_arg0]
  congr 1
  blk_ext [idx0, hs]

theorem b_at (c : Dev nD) (t : Fin cfg0.N) (r : Fin 528) (k : Fin 1024) (s : Fin 16896) (hs : s.val = (grid0.coords t 1).val * 528 + r.val) :
    (iblk m c 1 t : S528x1024.Idx → EReal) (ix2 r k) = (m ((c : Thread nD τ).loc main_arg1) : S16896x1024.Idx → EReal) (ix2 s k) := by
  blk_simp [iblk]
  rw [V_main_arg1]
  congr 1
  blk_ext [idx1, hs]

theorem g_at (c : Dev nD) (t : Fin cfg0.N) (r : Fin 528) (k : Fin 2048) (s : Fin 16896) (hs : s.val = (grid0.coords t 1).val * 528 + r.val) :
    (iblk m c 2 t : S528x2048.Idx → EReal) (ix2 r k) = (m ((c : Thread nD τ).loc main_arg2) : S16896x2048.Idx → EReal) (ix2 s k) := by
  blk_simp [iblk]
  rw [V_main_arg2]
  congr 1
  blk_ext [idx2, hs]

theorem wa_at (c : Dev nD) (t : Fin cfg0.N) (k : Fin 1024) (n : Fin 1024) (a q : Fin 4096) (ha : a.val = k.val) (hq : q.val = (grid0.coords t 0).val * 1024 + n.val) :
    (iblk m c 3 t : S1x1024x1024.Idx → EReal) (ix3 0 k n) = (m ((c : Thread nD τ).loc main_arg3) : S2x4096x4096.Idx → EReal) (ix3 0 a q) := by
  blk_simp [iblk]
  rw [V_main_arg3]
  congr 1
  blk_ext [idx3, ha, hq]

theorem wb_at (c : Dev nD) (t : Fin cfg0.N) (k : Fin 1024) (n : Fin 1024) (a q : Fin 4096) (ha : a.val = 1024 + k.val) (hq : q.val = (grid0.coords t 0).val * 1024 + n.val) :
    (iblk m c 4 t : S1x1024x1024.Idx → EReal) (ix3 0 k n) = (m ((c : Thread nD τ).loc main_arg3) : S2x4096x4096.Idx → EReal) (ix3 0 a q) := by
  blk_simp [iblk]
  rw [V_main_arg3]
  congr 1
  blk_ext [idx4, ha, hq]

theorem wg_at (c : Dev nD) (t : Fin cfg0.N) (k : Fin 2048) (n : Fin 1024) (a q : Fin 4096) (ha : a.val = 2048 + k.val) (hq : q.val = (grid0.coords t 0).val * 1024 + n.val) :
    (iblk m c 5 t : S1x2048x1024.Idx → EReal) (ix3 0 k n) = (m ((c : Thread nD τ).loc main_arg3) : S2x4096x4096.Idx → EReal) (ix3 0 a q) := by
  blk_simp [iblk]
  rw [V_main_arg3]
  congr 1
  blk_ext [idx5, ha, hq]

theorem res_at (c : Dev nD) (t : Fin cfg0.N) (r : Fin 528) (n : Fin 1024) (s : Fin 16896) (q : Fin 4096) (hs : s.val = (grid0.coords t 1).val * 528 + r.val) (hq : q.val = (grid0.coords t 0).val * 1024 + n.val) :
    (iblk m c 6 t : S528x1024.Idx → EReal) (ix2 r n) = (m ((c : Thread nD τ).loc main_arg4) : S16896x4096.Idx → EReal) (ix2 s q) := by
  blk_simp [iblk]
  rw [V_main_arg4]
  congr 1
  blk_ext [idx6, hs, hq]

theorem castC (x : S4096.Idx → EReal) (q : Fin 4096) : (shapeCast S1x4096 x shapeCasts_S4096_S1x4096) (ix2 0 q) = x (ix1 q) := by
  pointwise

theorem castL (x : S2x4096.Idx → EReal) (b : Fin 2) (q : Fin 4096) : (shapeCast S2x1x4096 x shapeCasts_S2x4096_S2x1x4096) (ix3 b 0 q) = x (ix2 b q) := by
  pointwise

theorem gc_at (c : Dev nD) (t : Fin cfg0.N) (n : Fin 1024) (q : Fin 4096) (hq : q.val = (grid0.coords t 0).val * 1024 + n.val) :
    (iblk m c 7 t : S1x1024.Idx → EReal) (ix2 0 n) = (m ((c : Thread nD τ).loc main_arg5) : S4096.Idx → EReal) (ix1 q) := by
  refine Eq.trans ?_ (castC _ q)
  rw [← V_main_v0]
  blk_simp [iblk]
  congr 1
  blk_ext [idx7, hq]

theorem gl_at (c : Dev nD) (t : Fin cfg0.N) (n : Fin 1024) (b : Fin 2) (q : Fin 4096) (hb : b.val = (grid0.coords t 1).val / 16) (hq : q.val = (grid0.coords t 0).val * 1024 + n.val) :
    (iblk m c 8 t : S1x1x1024.Idx → EReal) (ix3 0 0 n) = (m ((c : Thread nD τ).loc main_arg6) : S2x4096.Idx → EReal) (ix2 b q) := by
  refine Eq.trans ?_ (castL _ b q)
  rw [← V_main_v1]
  blk_simp [iblk]
  congr 1
  blk_ext [idx8, hb, hq]

end Cert.Proof.OutP

end
-- ==== Proof.OutPay.lean ====
module

public import proofs.«01_k».proof.Proof.Gen.OutProjIdeal
public import proofs.«01_k».proof.Proof.Gen.OutProjIdeal.Skeleton
public import Idealize.ShloMosaic.Lib.Pointwise

@[expose] public section

set_option maxRecDepth 16384

noncomputable section

namespace Cert.Proof.OutP

open Cert.OutProjIdeal Cert.OutProjIdeal.Gen
open Idealize.ShloMosaic

theorem pay2_at (X : Vec Ideal S1x1024x1024 .f32) (k n : Fin 1024) : k0_pay2 X (ix2 k n) = X (ix3 0 k n) := by
  pointwise [k0_pay2]

theorem pay3_at (X : Vec Ideal S1x1024x1024 .f32) (k n : Fin 1024) : k0_pay3 X (ix2 k n) = X (ix3 0 k n) := by
  pointwise [k0_pay3]

theorem pay4_at (X : Vec Ideal S1x2048x1024 .f32) (k : Fin 2048) (n : Fin 1024) : k0_pay4 X (ix2 k n) = X (ix3 0 k n) := by
  pointwise [k0_pay4]

theorem pay5_at (a b : Vec Ideal S528x1024 .bf16) (g : Vec Ideal S528x2048 .bf16) (wa wb : Vec Ideal S1024x1024 .bf16) (wg : Vec Ideal S2048x1024 .bf16) (r : Fin 528) (n : Fin 1024) :
    k0_pay5 a wa b wb g wg (ix2 r n)
      = (∑ k : Fin 1024, a (ix2 r k) * wa (ix2 k n)) + (∑ k : Fin 1024, b (ix2 r k) * wb (ix2 k n)) + ∑ k : Fin 2048, g (ix2 r k) * wg (ix2 k n) := by
  pointwise [k0_pay5]

theorem pay1_at (P : FVec Ideal S528x1024 .f32) (M : IVec S528x1 1) (gc : Vec Ideal S1x1024 .f32) (gl : Vec Ideal S1x1x1024 .f32) (res : Vec Ideal S528x1024 .f32) (r : Fin 528) (n : Fin 1024) :
    k0_pay1 P M gc gl res (ix2 r n) = res (ix2 r n) + (if M (ix2 r 0) = 1#1 then gc (ix2 0 n) else gl (ix3 0 0 n)) * P (ix2 r n) := by
  pointwise [k0_pay1]
  rfl

/-- The first row of a point's tile inside its sequence, as the kernel computes it from the point's row coordinate. -/
def firstBits (b : BitVec 32) : BitVec 32 :=
  Scalar.muli (Scalar.select (Scalar.andi (Scalar.xori (Scalar.cmpi .slt (Scalar.remsi b (Scalar.select (Scalar.cmpi .eq 16#32 0#32) 1#32 16#32)) 0#32) (Scalar.cmpi .slt (Scalar.select (Scalar.cmpi .eq 16#32 0#32) 1#32 16#32) 0#32)) (Scalar.cmpi .ne (Scalar.remsi b (Scalar.select (Scalar.cmpi .eq 16#32 0#32) 1#32 16#32)) 0#32))
    (Scalar.addi (Scalar.remsi b (Scalar.select (Scalar.cmpi .eq 16#32 0#32) 1#32 16#32)) (Scalar.select (Scalar.cmpi .eq 16#32 0#32) 1#32 16#32)) (Scalar.remsi b (Scalar.select (Scalar.cmpi .eq 16#32 0#32) 1#32 16#32))) 528#32

theorem firstBits_eq : ∀ i : Fin 32, firstBits (BitVec.ofNat 32 i.val) = BitVec.ofNat 32 ((i.val % 16) * 528) := by
  decide +kernel

theorem slt_256 : ∀ n : Fin 8448, (IntOp.cmpi .slt (BitVec.ofNat 32 n.val) 256#32 = 1#1) ↔ n.val < 256 := by
  decide +kernel

/-- The kernel's row test: is the row among the first 256 of its sequence? -/
theorem pay6_at (i : grid0.Coords) (r : Fin 528) : (k0_pay6 i (ix2 r 0) = 1#1) ↔ ((i 1).val % 16) * 528 + r.val < 256 := by
  have hi : (i 1).val < 32 := (i 1).isLt
  have e := slt_256 ⟨((i 1).val % 16) * 528 + r.val, by omega⟩
  rw [← e]
  dsimp only
  rw [BitVec.ofNat_add, ← firstBits_eq (i 1)]
  pointwise [k0_pay6]
  rfl

end Cert.Proof.OutP

end
-- ==== Proof.OutArr.lean ====
module

public import proofs.«01_k».proof.Proof.OutTile
public import proofs.«01_k».proof.Proof.OutPay

@[expose] public section

set_option maxRecDepth 16384

noncomputable section

namespace Cert.Proof.OutP

open Cert.OutProjIdeal Cert.OutProjIdeal.Gen
open Idealize.ShloMosaic Idealize.ShloMosaic.TcCoe Idealize.ShloMosaic.Tactic
open Idealize.ShloMosaic.Pipeline
open Idealize.SL.Sem

variable (m : (ℓ : Loc nD τ sig) → Buf (Elt Ideal) ℓ)

/-- Tile `j` of the first 1024 weight rows. -/
def tileA (w : S2x4096x4096.Idx → EReal) (j : ℕ) : S1024x1024.Idx → EReal := fun y => w (ix3 0 ⟨(y 0).val, Nat.lt_trans (y 0).isLt (by decide)⟩ ⟨(j * 1024 + (y 1).val) % 4096, Nat.mod_lt _ (by decide)⟩)

/-- Tile `j` of the next 1024 weight rows. -/
def tileB (w : S2x4096x4096.Idx → EReal) (j : ℕ) : S1024x1024.Idx → EReal := fun y => w (ix3 0 ⟨1024 + (y 0).val, Nat.lt_trans (Nat.add_lt_add_left (y 0).isLt 1024) (by decide)⟩ ⟨(j * 1024 + (y 1).val) % 4096, Nat.mod_lt _ (by decide)⟩)

/-- Tile `j` of the last 2048 weight rows. -/
def tileG (w : S2x4096x4096.Idx → EReal) (j : ℕ) : S2048x1024.Idx → EReal := fun y => w (ix3 0 ⟨2048 + (y 0).val, Nat.add_lt_add_left (y 0).isLt 2048⟩ ⟨(j * 1024 + (y 1).val) % 4096, Nat.mod_lt _ (by decide)⟩)

/-- The weights as the launch finds them. -/
abbrev wts (c : Dev nD) : S2x4096x4096.Idx → EReal := m ((c : Thread nD τ).loc main_arg3)

theorem tile_a (c : Dev nD) (t : Fin cfg0.N) : k0_pay2 (F := Ideal) (iblk m c 3 t) = tileA (wts m c) (t.val / 32) := by
  have hc := coord0 t
  have hb : (grid0.coords t 0).val < 4 := (grid0.coords t 0).isLt
  funext y
  obtain ⟨k, n, rfl⟩ : ∃ k n, y = ix2 k n := ⟨y 0, y 1, by funext a; fin_cases a <;> rfl⟩
  have hn : n.val < 1024 := n.isLt
  rw [pay2_at]
  exact wa_at m c t k n _ _ rfl (by show (t.val / 32 * 1024 + n.val) % 4096 = _; omega)

theorem tile_b (c : Dev nD) (t : Fin cfg0.N) : k0_pay3 (F := Ideal) (iblk m c 4 t) = tileB (wts m c) (t.val / 32) := by
  have hc := coord0 t
  have hb : (grid0.coords t 0).val < 4 := (grid0.coords t 0).isLt
  funext y
  obtain ⟨k, n, rfl⟩ : ∃ k n, y = ix2 k n := ⟨y 0, y 1, by funext a; fin_cases a <;> rfl⟩
  have hn : n.val < 1024 := n.isLt
  rw [pay3_at]
  exact wb_at m c t k n _ _ rfl (by show (t.val / 32 * 1024 + n.val) % 4096 = _; omega)

theorem tile_g (c : Dev nD) (t : Fin cfg0.N) : k0_pay4 (F := Ideal) (iblk m c 5 t) = tileG (wts m c) (t.val / 32) := by
  have hc := coord0 t
  have hb : (grid0.coords t 0).val < 4 := (grid0.coords t 0).isLt
  funext y
  obtain ⟨k, n, rfl⟩ : ∃ k n, y = ix2 k n := ⟨y 0, y 1, by funext a; fin_cases a <;> rfl⟩
  have hn : n.val < 1024 := n.isLt
  rw [pay4_at]
  exact wg_at m c t k n _ _ rfl (by show (t.val / 32 * 1024 + n.val) % 4096 = _; omega)

/-- The weight tiles the scratch holds after every point: those of the point's column of tiles. -/
theorem held (c : Dev nD) : ∀ (n : ℕ) (hn : n < cfg0.N), (outsAt0 m c n hn).2 = (tileA (wts m c) (n / 32), tileB (wts m c) (n / 32), tileG (wts m c) (n / 32)) := by
  intro n
  induction n using Nat.strong_induction_on with
  | _ n ih =>
    intro hn
    by_cases h0 : n % 32 = 0
    · refine (congrArg Prod.snd (outsAt0_A m c ⟨n, hn⟩ h0)).trans ?_
      dsimp only
      rw [fill_a, fill_b, fill_g, tile_a, tile_b, tile_g]
    · refine (congrArg Prod.snd (outsAt0_B m c ⟨n, hn⟩ h0)).trans ?_
      dsimp only
      have e := ih (n - 1) (by omega) (by omega)
      rw [show (n - 1) / 32 = n / 32 by omega] at e
      exact e

/-- What every point leaves in its output block. -/
theorem left (c : Dev nD) (t : Fin cfg0.N) : (outsAt0 m c t.val t.isLt).1
    = k0_pay1 (F := Ideal) (k0_pay5 (F := Ideal) (iblk m c 0 t) (tileA (wts m c) (t.val / 32)) (iblk m c 1 t) (tileB (wts m c) (t.val / 32)) (iblk m c 2 t) (tileG (wts m c) (t.val / 32)))
        (k0_pay6 (grid0.coords t)) (iblk m c 7 t) (iblk m c 8 t) (iblk m c 6 t) := by
  by_cases h0 : t.val % 32 = 0
  · refine (congrArg Prod.fst (outsAt0_A m c t h0)).trans ?_
    dsimp only
    rw [out_fill, tile_a, tile_b, tile_g]
  · refine (congrArg Prod.fst (outsAt0_B m c t h0)).trans ?_
    dsimp only
    rw [out_keep]
    have e := held m c (t.val - 1) (Nat.lt_of_le_of_lt (Nat.sub_le _ _) t.isLt)
    rw [show (t.val - 1) / 32 = t.val / 32 by omega] at e
    rw [e]

/-- The projection of the launch's arguments. -/
abbrev want (c : Dev nD) : S16896x4096.Idx → EReal :=
  added (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem gate_congr {a b : EReal} (r p : EReal) (h : a = b) : r + a * p = r + b * p := by rw [h]

/-- The block a point leaves is the projection's, at the place the block takes in the result. -/
theorem out_at (c : Dev nD) (t : Fin cfg0.N) (y : S528x1024.Idx) (z : S16896x4096.Idx)
    (h0 : (z 0).val = (grid0.coords t 1).val * 528 + (y 0).val) (h1 : (z 1).val = (grid0.coords t 0).val * 1024 + (y 1).val) :
    (outsAt0 m c t.val t.isLt).1 y = want m c z := by
  have hc := coord0 t
  have hb : (grid0.coords t 0).val < 4 := (grid0.coords t 0).isLt
  have hb1 : (grid0.coords t 1).val < 32 := (grid0.coords t 1).isLt
  obtain ⟨r, n, rfl⟩ : ∃ r n, y = ix2 r n := ⟨y 0, y 1, by funext a; fin_cases a <;> rfl⟩
  obtain ⟨s, q, rfl⟩ : ∃ s q, z = ix2 s q := ⟨z 0, z 1, by funext a; fin_cases a <;> rfl⟩
  have hr : r.val < 528 := r.isLt
  have hn : n.val < 1024 := n.isLt
  have hs : s.val = (grid0.coords t 1).val * 528 + r.val := h0
  have hq : q.val = (grid0.coords t 0).val * 1024 + n.val := h1
  have eq : (⟨(t.val / 32 * 1024 + n.val) % 4096, Nat.mod_lt _ (by decide)⟩ : Fin 4096) = q := Fin.ext (by show (t.val / 32 * 1024 + n.val) % 4096 = q.val; omega)
  have e5 : k0_pay5 (F := Ideal) (iblk m c 0 t) (tileA (wts m c) (t.val / 32)) (iblk m c 1 t) (tileB (wts m c) (t.val / 32)) (iblk m c 2 t) (tileG (wts m c) (t.val / 32)) (ix2 r n)
      = mixed (m ((c : Thread nD τ).loc main_arg0)) (m ((c : Thread nD τ).loc main_arg1)) (m ((c : Thread nD τ).loc main_arg2)) (m ((c : Thread nD τ).loc main_arg3)) s q := by
    rw [pay5_at]
    unfold mixed
    refine congrArg₂ (· + ·) (congrArg₂ (· + ·) ?_ ?_) ?_ <;> refine Finset.sum_congr rfl fun k _ => ?_
    · rw [a_at m c t r k s hs, ← eq]; rfl
    · rw [b_at m c t r k s hs, ← eq]; rfl
    · rw [g_at m c t r k s hs, ← eq]; rfl
  have eg : (if k0_pay6 (grid0.coords t) (ix2 r 0) = 1#1 then (iblk m c 7 t : S1x1024.Idx → EReal) (ix2 0 n) else (iblk m c 8 t : S1x1x1024.Idx → EReal) (ix3 0 0 n))
      = gateAt (m ((c : Thread nD τ).loc main_arg5)) (m ((c : Thread nD τ).loc main_arg6)) s q := by
    unfold gateAt
    have hm : s.val % 8448 = (grid0.coords t 1).val % 16 * 528 + r.val := by omega
    rw [gc_at m c t n q hq, gl_at m c t n ⟨s.val / 8448, by omega⟩ q (by show s.val / 8448 = _; omega) hq, hm]
    exact if_congr (pay6_at _ _) rfl rfl
  rw [left, pay1_at, e5, res_at m c t r n s q hs hq]
  exact gate_congr _ _ eg

theorem final (c : Dev nD) : (dats m 0 c).arrAt 9 cfg0.N = want m c := by
  refine (dats m 0 c).arrAt_eq_of_covers 9 _ (by decide +kernel) fun t hf y => ?_
  blk_simp
  exact (congrFun (after0_9 m c t) y).trans (out_at m c t y ((win0_9.blk t).view.emb y) (by blk_simp [idx9]; try omega) (by blk_simp [idx9]; try omega))

end Cert.Proof.OutP

end
-- ==== Proof.OutRefVal.lean ====
module

public import proofs.«01_k».proof.Proof.Gen.OutRefIdeal
public import proofs.«01_k».proof.Proof.Gen.OutRefIdeal.Run
public import proofs.«01_k».proof.Proof.OutSpec

@[expose] public section

set_option maxRecDepth 16384

noncomputable section

namespace Cert.Proof.OutP

open Cert.OutRefIdeal Cert.OutRefIdeal.Gen
open Idealize.ShloMosaic Idealize.ShloMosaic.TcCoe

/-- The three mixers' columns side by side. -/
def cat (oa ob : FVec Ideal S16896x1024 .bf16) (og : FVec Ideal S16896x2048 .bf16) : FVec Ideal S16896x4096 .bf16 :=
  concatenate S16896x4096 1 [⟨S16896x1024, oa⟩, ⟨S16896x1024, ob⟩, ⟨S16896x2048, og⟩] concatenates_S16896x1024_S16896x1024_S16896x2048_S16896x4096_d1

/-- The product over all 4096 columns. -/
def prodR (x : FVec Ideal S16896x4096 .bf16) (w : FVec Ideal S2x4096x4096 .f32) : FVec Ideal S16896x4096 .f32 :=
  Host.dotGeneral dot_S16896x4096_S4096x4096_S16896x4096_1_0_0_1_n_n none (extf .f32 x bitsLt_bf16_f32)
    (shapeCast S4096x4096 (extractStridedSlice S1x4096x4096 ![0, 0, 0] w slices_S2x4096x4096_S1x4096x4096_0_0_0) shapeCasts_S1x4096x4096_S4096x4096)

theorem prodR_at (x : FVec Ideal S16896x4096 .bf16) (w : FVec Ideal S2x4096x4096 .f32) (s : Fin 16896) (n : Fin 4096) :
    prodR x w (ix2 s n) = ∑ k : Fin 4096, x (ix2 s k) * w (ix3 0 k n) := by
  pointwise [prodR]

theorem cat_a (oa ob : FVec Ideal S16896x1024 .bf16) (og : FVec Ideal S16896x2048 .bf16) (s : Fin 16896) (k : Fin 1024) :
    cat oa ob og (ix2 s ⟨k.val, by omega⟩) = oa (ix2 s k) := by
  pointwise [cat]

theorem cat_b (oa ob : FVec Ideal S16896x1024 .bf16) (og : FVec Ideal S16896x2048 .bf16) (s : Fin 16896) (k : Fin 1024) :
    cat oa ob og (ix2 s ⟨1024 + k.val, by omega⟩) = ob (ix2 s k) := by
  pointwise [cat]

theorem cat_g (oa ob : FVec Ideal S16896x1024 .bf16) (og : FVec Ideal S16896x2048 .bf16) (s : Fin 16896) (k : Fin 2048) :
    cat oa ob og (ix2 s ⟨2048 + k.val, by omega⟩) = og (ix2 s k) := by
  pointwise [cat]
  rw [dif_neg (by omega), dif_neg (by omega)]
  congr 2
  exact Fin.ext (by show 2048 + k.val - 1024 - 1024 = k.val; omega)

/-- A sum over 4096 places, taken over the first 1024, the next 1024 and the other 2048. -/
theorem sum_split (f : Fin 4096 → EReal) : ∑ k : Fin 4096, f k
    = (∑ k : Fin 1024, f ⟨k.val, by omega⟩) + (∑ k : Fin 1024, f ⟨1024 + k.val, by omega⟩) + ∑ k : Fin 2048, f ⟨2048 + k.val, by omega⟩ := by
  have e1 := Fin.sum_univ_add (a := 2048) (b := 2048) (f : Fin (2048 + 2048) → EReal)
  have e2 := Fin.sum_univ_add (a := 1024) (b := 1024) (fun k : Fin (1024 + 1024) => f ⟨k.val, by omega⟩)
  refine e1.trans ?_
  congr 1

theorem prodR_cat (oa ob : FVec Ideal S16896x1024 .bf16) (og : FVec Ideal S16896x2048 .bf16) (w : FVec Ideal S2x4096x4096 .f32) (s : Fin 16896) (n : Fin 4096) :
    prodR (cat oa ob og) w (ix2 s n) = mixed oa ob og w s n := by
  rw [prodR_at, sum_split]
  simp only [cat_a, cat_b, cat_g]
  rfl

/-- The context rows and the latent rows of the sum, one behind the other, as one list of rows. -/
def gatedR (P : FVec Ideal S16896x4096 .f32) (res : FVec Ideal S16896x4096 .f32) (gc : FVec Ideal S4096 .f32) (gl : FVec Ideal S2x4096 .f32) : FVec Ideal S16896x4096 .f32 :=
  shapeCast S16896x4096 (concatenate S2x8448x4096 1 [⟨S2x256x4096, addf (extractStridedSlice S2x256x4096 ![0, 0, 0] (shapeCast S2x8448x4096 res shapeCasts_S16896x4096_S2x8448x4096) slices_S2x8448x4096_S2x256x4096_0_0_0)
      (mulf (broadcastInDim S2x256x4096 ![0, 1, 2] bcast_S1x1x4096_S2x256x4096_0_1_2 (broadcastInDim S1x1x4096 ![2] bcast_S4096_S1x1x4096_2 gc)) (extractStridedSlice S2x256x4096 ![0, 0, 0] (shapeCast S2x8448x4096 P shapeCasts_S16896x4096_S2x8448x4096) slices_S2x8448x4096_S2x256x4096_0_0_0))⟩,
    ⟨S2x8192x4096, addf (extractStridedSlice S2x8192x4096 ![0, 256, 0] (shapeCast S2x8448x4096 res shapeCasts_S16896x4096_S2x8448x4096) slices_S2x8448x4096_S2x8192x4096_0_256_0)
      (mulf (broadcastInDim S2x8192x4096 ![0, 1, 2] bcast_S2x1x4096_S2x8192x4096_0_1_2 (broadcastInDim S2x1x4096 ![0, 2] bcast_S2x4096_S2x1x4096_0_2 gl)) (extractStridedSlice S2x8192x4096 ![0, 256, 0] (shapeCast S2x8448x4096 P shapeCasts_S16896x4096_S2x8448x4096) slices_S2x8448x4096_S2x8192x4096_0_256_0))⟩]
    concatenates_S2x256x4096_S2x8192x4096_S2x8448x4096_d1) shapeCasts_S2x8448x4096_S16896x4096

theorem gatedR_at (P res : FVec Ideal S16896x4096 .f32) (gc : FVec Ideal S4096 .f32) (gl : FVec Ideal S2x4096 .f32) (s : Fin 16896) (n : Fin 4096) :
    gatedR P res gc gl (ix2 s n) = res (ix2 s n) + gateAt gc gl s n * P (ix2 s n) := by
  pointwise [gatedR]
  unfold gateAt
  split
  · rfl
  · rename_i h
    have e : (⟨s.val / 8448 * 8448 + (256 + (s.val % 8448 - 256)), by omega⟩ : Fin 16896) = s := Fin.ext (by show s.val / 8448 * 8448 + (256 + (s.val % 8448 - 256)) = s.val; omega)
    rw [e]

/-- The reference computes the gated projection added to the stream. -/
theorem ref_eq (oa ob : FVec Ideal S16896x1024 .bf16) (og : FVec Ideal S16896x2048 .bf16) (w : FVec Ideal S2x4096x4096 .f32) (res : FVec Ideal S16896x4096 .f32)
    (gc : FVec Ideal S4096 .f32) (gl : FVec Ideal S2x4096 .f32) : gatedR (prodR (cat oa ob og) w) res gc gl = added oa ob og w res gc gl := by
  funext y
  obtain ⟨s, n, rfl⟩ : ∃ s n, y = ix2 s n := ⟨y 0, y 1, by funext a; fin_cases a <;> rfl⟩
  rw [gatedR_at, prodR_cat]
  rfl

end Cert.Proof.OutP

end
-- ==== Proof.OutAlg.lean ====
module

public import proofs.«01_k».proof.Defs
public import proofs.«01_k».proof.Proof.OutArr
public import proofs.«01_k».proof.Proof.OutRefVal

@[expose] public section

set_option maxRecDepth 16384

noncomputable section

namespace Cert.Proof.OutP

open Cert.OutProjIdeal Cert.OutProjIdeal.Gen
open Idealize.ShloMosaic Idealize.ShloMosaic.TcCoe
open Idealize.SL.Sem

theorem algebraic : Cert.algebraic_OutProjIdeal_OutRefIdeal (hOutProjIdeal := Cert.OutProjIdeal.Gen.facts)
    (hOutRefIdeal := Cert.OutRefIdeal.Gen.facts) := by
  intro m g m' g' hpre hargs
  refine ⟨fun c => want m c, ?_, ?_⟩
  · exact (θ_run defs _ _).mono (fun r h c => ⟨((h.1 c).1 9).trans (final m c), h.2 c⟩) (θ_run_and (run_main m g) (unchanged m g))
  · refine (θ_run Cert.OutRefIdeal.defs _ _).mono (fun r h c => ⟨(h c).1.trans ?_, (h c).2⟩) (Cert.OutRefIdeal.Value.run (F := Ideal) m' g')
    obtain ⟨e0, e1, e2, e3, e4, e5, e6⟩ := hargs c
    rw [e0, e1, e2, e3, e4, e5, e6]
    exact ref_eq _ _ _ _ _ _ _

end Cert.Proof.OutP

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.InProj
public import proofs.«01_k».proof.Proof.Gen.InProjIdeal
public import proofs.«01_k».proof.Proof.Gen.InProjIdeal.Frame
public import proofs.«01_k».proof.Proof.Gen.InProjIdeal.Skeleton
public import proofs.«01_k».proof.Proof.Gen.InRefIdeal
public import proofs.«01_k».proof.Proof.Gen.InRefIdeal.Run
public import proofs.«01_k».proof.Proof.Gen.OutProj
public import proofs.«01_k».proof.Proof.Gen.OutProjIdeal
public import proofs.«01_k».proof.Proof.Gen.OutProjIdeal.Frame
public import proofs.«01_k».proof.Proof.Gen.OutProjIdeal.Skeleton
public import proofs.«01_k».proof.Proof.Gen.OutRefIdeal
public import proofs.«01_k».proof.Proof.Gen.OutRefIdeal.Run
public import proofs.«01_k».proof.Proof.Body
public import proofs.«01_k».proof.Proof.Alg
public import proofs.«01_k».proof.Proof.InAlg
public import proofs.«01_k».proof.Proof.OutAlg

@[expose] public section

noncomputable section

namespace Cert.Proof

open Idealize.ShloMosaic Idealize.SL.Sem

set_option maxRecDepth 16384 in
/-- The two printed body tables are the same text. -/
theorem defs₀_eq : Cert.Kernel.defs₀ (F := Bits) = Cert.KernelIdeal.defs₀ (F := Bits) := by
  unfold Cert.Kernel.defs₀ Cert.KernelIdeal.defs₀
  congr 1
  funext l x
  obtain ⟨l, hl⟩ := l
  cases l with
  | zero => rfl
  | succ n => exact absurd hl (by omega)

set_option maxRecDepth 16384 in
theorem defs_eq : Cert.Kernel.defs (F := Bits) = Cert.KernelIdeal.defs (F := Bits) := by
  unfold Cert.Kernel.defs Cert.KernelIdeal.defs
  rw [defs₀_eq]
  rfl

set_option maxRecDepth 16384 in
theorem frame_kernel : Cert.quiescent_Kernel (hKernel := Cert.Kernel.Gen.facts) := fun m ρ _ => by
  rw [defs_eq]
  exact run_frame (F := Bits) m ρ

theorem frame_kernelIdeal : Cert.quiescent_KernelIdeal (hKernelIdeal := Cert.KernelIdeal.Gen.facts) := fun m ρ _ => run_frame (F := Ideal) m ρ

theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩) (Cert.ReferenceIdeal.Value.run (F := Ideal) m ρ)

set_option maxRecDepth 16384 in
/-- The two printed body tables of the projection are the same text. -/
theorem in_defs₀_eq : Cert.InProj.defs₀ (F := Bits) = Cert.InProjIdeal.defs₀ (F := Bits) := by
  unfold Cert.InProj.defs₀ Cert.InProjIdeal.defs₀
  congr 1
  funext l x
  obtain ⟨l, hl⟩ := l
  cases l with
  | zero => rfl
  | succ n => exact absurd hl (by omega)

set_option maxRecDepth 16384 in
theorem in_defs_eq : Cert.InProj.defs (F := Bits) = Cert.InProjIdeal.defs (F := Bits) := by
  unfold Cert.InProj.defs Cert.InProjIdeal.defs
  rw [in_defs₀_eq]
  rfl

set_option maxRecDepth 16384 in
theorem frame_inProj : Cert.quiescent_InProj (hInProj := Cert.InProj.Gen.facts) := fun m ρ _ => by
  rw [in_defs_eq]
  exact InP.run_frame (F := Bits) m ρ

theorem frame_inProjIdeal : Cert.quiescent_InProjIdeal (hInProjIdeal := Cert.InProjIdeal.Gen.facts) := fun m ρ _ => InP.run_frame (F := Ideal) m ρ

theorem frame_inRef : Cert.quiescent_InRefIdeal (hInRefIdeal := Cert.InRefIdeal.Gen.facts) := fun m ρ _ =>
  (θ_run (Cert.InRefIdeal.defs (F := Ideal)) _ _).mono (fun r h => ⟨fun c => (h c).2, sem_eq_zero_of_no_sems (by decide) r.2⟩) (Cert.InRefIdeal.Value.run (F := Ideal) m ρ)

set_option maxRecDepth 16384 in
/-- The two printed body tables of the output projection are the same text. -/
theorem out_defs₀_eq : Cert.OutProj.defs₀ (F := Bits) = Cert.OutProjIdeal.defs₀ (F := Bits) := by
  unfold Cert.OutProj.defs₀ Cert.OutProjIdeal.defs₀
  congr 1
  funext l x
  obtain ⟨l, hl⟩ := l
  cases l with
  | zero => rfl
  | succ n => exact absurd hl (by omega)

set_option maxRecDepth 16384 in
theorem out_defs_eq : Cert.OutProj.defs (F := Bits) = Cert.OutProjIdeal.defs (F := Bits) := by
  unfold Cert.OutProj.defs Cert.OutProjIdeal.defs
  rw [out_defs₀_eq]
  rfl

set_option maxRecDepth 16384 in
theorem frame_outProj : Cert.quiescent_OutProj (hOutProj := Cert.OutProj.Gen.facts) := fun m ρ _ => by
  rw [out_defs_eq]
  exact Cert.OutProjIdeal.Gen.frame (F := Bits) m ρ

theorem frame_outProjIdeal : Cert.quiescent_OutProjIdeal (hOutProjIdeal := Cert.OutProjIdeal.Gen.facts) := fun m ρ _ => Cert.OutProjIdeal.Gen.frame (F := Ideal) m ρ

theorem frame_outRef : Cert.quiescent_OutRefIdeal (hOutRefIdeal := Cert.OutRefIdeal.Gen.facts) := fun m ρ _ =>
  (θ_run (Cert.OutRefIdeal.defs (F := Ideal)) _ _).mono (fun r h => ⟨fun c => (h c).2, sem_eq_zero_of_no_sems (by decide) r.2⟩) (Cert.OutRefIdeal.Value.run (F := Ideal) m ρ)

theorem claim : Cert.Claim := ⟨Cert.Kernel.Gen.facts, Cert.KernelIdeal.Gen.facts, Cert.ReferenceIdeal.Gen.facts, Cert.InProj.Gen.facts, Cert.InProjIdeal.Gen.facts,
  Cert.InRefIdeal.Gen.facts, Cert.OutProj.Gen.facts, Cert.OutProjIdeal.Gen.facts, Cert.OutRefIdeal.Gen.facts, Cert.Pre_finite.Gen.facts,
  frame_kernel, frame_kernelIdeal, fun m ρ _ => frame_kernelIdeal m ρ trivial, frame_reference, fun m ρ _ => frame_reference m ρ trivial,
  frame_inProj, frame_inProjIdeal, frame_inRef, frame_outProj, frame_outProjIdeal, frame_outRef,
  trivial, algebraic, trivial, InP.algebraic, trivial, OutP.algebraic⟩

end Cert.Proof

end
